-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_generic [hPre_generic : Cert.Pre_generic.Facts] (m : (ℓ : Loc Cert.KernelIdeal.nD Cert.KernelIdeal.τ Cert.KernelIdeal.sig) → Buf (Elt Ideal) ℓ) : Prop :=
  ∀ c : Dev Cert.KernelIdeal.nD,
    (Cert.Pre_generic.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_KernelIdeal_zero [hPre_zero : Cert.Pre_zero.Facts] (m : (ℓ : Loc Cert.KernelIdeal.nD Cert.KernelIdeal.τ Cert.KernelIdeal.sig) → Buf (Elt Ideal) ℓ) : Prop :=
  ∀ c : Dev Cert.KernelIdeal.nD,
    (Cert.Pre_zero.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_generic [hPre_generic : Cert.Pre_generic.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_generic.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_generic [hKernelIdeal : Cert.KernelIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_generic m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_KernelIdeal_pre_zero [hKernelIdeal : Cert.KernelIdeal.Facts] [hPre_zero : Cert.Pre_zero.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def quiescent_ReferenceIdeal_pre_generic [hReferenceIdeal : Cert.ReferenceIdeal.Facts] [hPre_generic : Cert.Pre_generic.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_generic m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))
      ∧ r.2.sem = fun _ => 0)

def preserves_Kernel_KernelIdeal : Prop :=
  True

def algebraic_KernelIdeal_ReferenceIdeal_pre_generic [hKernelIdeal : Cert.KernelIdeal.Facts] [hReferenceIdeal : Cert.ReferenceIdeal.Facts] [hPre_generic : Cert.Pre_generic.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_generic m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v35) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def holds_KernelIdeal_near_pre_generic [hKernelIdeal : Cert.KernelIdeal.Facts] [hPre_generic : Cert.Pre_generic.Facts] [hPost_near : Cert.Post_near.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_generic m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_near.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0))) = (fun _ => 1#1))

def holds_KernelIdeal_differs_pre_zero [hKernelIdeal : Cert.KernelIdeal.Facts] [hPre_zero : Cert.Pre_zero.Facts] [hPost_differs : Cert.Post_differs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_zero m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ (Cert.Post_differs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (r.2.mem ((c.tc : Thread Cert.KernelIdeal.nD Cert.KernelIdeal.τ).loc Cert.KernelIdeal.main_v0))) = (fun _ => 1#1))

def Claim : Prop :=
  ∃ (hKernel : Cert.Kernel.Facts) (hKernelIdeal : Cert.KernelIdeal.Facts) (hReferenceIdeal : Cert.ReferenceIdeal.Facts) (hPre_generic : Cert.Pre_generic.Facts) (hPre_zero : Cert.Pre_zero.Facts) (hPost_near : Cert.Post_near.Facts) (hPost_differs : Cert.Post_differs.Facts),
    quiescent_Kernel (hKernel := hKernel)
    ∧ quiescent_KernelIdeal (hKernelIdeal := hKernelIdeal)
    ∧ quiescent_KernelIdeal_pre_generic (hKernelIdeal := hKernelIdeal) (hPre_generic := hPre_generic)
    ∧ quiescent_KernelIdeal_pre_zero (hKernelIdeal := hKernelIdeal) (hPre_zero := hPre_zero)
    ∧ quiescent_ReferenceIdeal (hReferenceIdeal := hReferenceIdeal)
    ∧ quiescent_ReferenceIdeal_pre_generic (hReferenceIdeal := hReferenceIdeal) (hPre_generic := hPre_generic)
    ∧ preserves_Kernel_KernelIdeal
    ∧ algebraic_KernelIdeal_ReferenceIdeal_pre_generic (hKernelIdeal := hKernelIdeal) (hReferenceIdeal := hReferenceIdeal) (hPre_generic := hPre_generic)
    ∧ holds_KernelIdeal_near_pre_generic (hKernelIdeal := hKernelIdeal) (hPre_generic := hPre_generic) (hPost_near := hPost_near)
    ∧ holds_KernelIdeal_differs_pre_zero (hKernelIdeal := hKernelIdeal) (hPre_zero := hPre_zero) (hPost_differs := hPost_differs)
-- ==== Post_differs.lean ====
abbrev S4096x128 : Shape := ⟨2, ![4096, 128]⟩
abbrev S1x1 : Shape := ⟨2, ![1, 1]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩

class Facts : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  slices_S4096x4096_S4096x1_0_2 : S4096x4096.Slices ![0, 2] S4096x1
  bcast_S_S4096x128 : S_.BroadcastsInDim S4096x128 (![] : Fin 0 → Fin S4096x128.rank)
  bcast_S_S4096 : S_.BroadcastsInDim S4096 (![] : Fin 0 → Fin S4096.rank)
  reducesTo_S4096_S_d0 : S4096.ReducesTo [0] S_
  shapeCasts_S_S1x1 : S_.ShapeCasts S1x1
  dot_S4096x128_S128x4096_S4096x4096_1_0_0_1_n_n_wf : DotDims.WF S4096x128 S128x4096 S4096x4096 [1] [0] [0] [1] [] []
  gather_S4096x128_S4096x1_S4096x128_1_0_n_n_0_1_1128_wf : GatherDims.WF S4096x128 S4096x1 S4096x128 [1] [0] [] [0] [] 1 ![1, 128]

variable [Facts]

variable {F : FTy → Type} [FloatOps F]
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def comparator_f32_i32_d1 : F .f32 × BitVec 32 → F .f32 × BitVec 32 → BitVec 1 :=
  fun l r =>
    let cst_10 := FloatOps.ofBits .f32 0x00000000#32
    let v40 := FloatOps.cmpf .oeq l.1 cst_10
    let cst_11 := FloatOps.ofBits .f32 0x00000000#32
    let v41 := Scalar.select v40 cst_11 l.1
    let v42 := FloatOps.cmpf .une l.1 l.1
    let cst_12 := FloatOps.ofBits .f32 0x7FC00000#32
    let v43 := Scalar.select v42 cst_12 v41
    let cst_13 := FloatOps.ofBits .f32 0x00000000#32
    let v44 := FloatOps.cmpf .oeq r.1 cst_13
    let cst_14 := FloatOps.ofBits .f32 0x00000000#32
    let v45 := Scalar.select v44 cst_14 r.1
    let v46 := FloatOps.cmpf .une r.1 r.1
    let cst_15 := FloatOps.ofBits .f32 0x7FC00000#32
    let v47 := Scalar.select v46 cst_15 v45
    let v48 := FloatOps.cmpfTotal .lt v43 v47
    v48
def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf

def fn_part2 {F : FTy → Type} [FloatOps F] (main_arg2 : FVec F S1x1 .f32) (main_v36 : FVec F S_ .f32) : IVec S1x1 1 :=
  let main_cst_9 : FVec F S_ .f32 := constant S_ .f32 0x45800000#32
  let main_v37 : FVec F S_ .f32 := Host.divf main_v36 main_cst_9
  let main_v38 : FVec F S1x1 .f32 := shapeCast S1x1 main_v37 shapeCasts_S_S1x1
  let main_v39 : IVec S1x1 1 := cmpf .une main_arg2 main_v38
  main_v39

def fn_part1 {F : FTy → Type} [FloatOps F] (main_arg0 : FVec F S4096x128 .f32) (main_arg2 : FVec F S1x1 .f32) (main_v18 : FVec F S4096x128 .f32) (main_v19 : FVec F S4096x128 .f32) : IVec S1x1 1 :=
  let main_cst_2 : FVec F S_ .f32 := constant S_ .f32 0x358637BD#32
  let main_v20 : FVec F S4096x128 .f32 := broadcastInDim S4096x128 ![] bcast_S_S4096x128 main_cst_2
  let main_v21 : FVec F S4096x128 .f32 := addf main_v19 main_v20
  let main_v22 : FVec F S4096x128 .f32 := subf main_arg0 main_v18
  let main_cst_3 : FVec F S_ .f32 := constant S_ .f32 0x358637BD#32
  let main_v23 : FVec F S4096x128 .f32 := broadcastInDim S4096x128 ![] bcast_S_S4096x128 main_cst_3
  let main_v24 : FVec F S4096x128 .f32 := addf main_v22 main_v23
  let main_v25 : FVec F S4096x128 .f32 := mulf main_v21 main_v21
  let main_cst_4 : FVec F S_ .f32 := constant S_ .f32 0x00000000#32
  let main_v26 : FVec F S4096 .f32 := (fun x v => Host.reduceAdd x v reducesTo_S4096x128_S4096_d1 h_S_) main_v25 main_cst_4
  let main_v27 : FVec F S4096 .f32 := Host.sqrt main_v26
  let main_v28 : FVec F S4096x128 .f32 := mulf main_v24 main_v24
  let main_cst_5 : FVec F S_ .f32 := constant S_ .f32 0x00000000#32
  let main_v29 : FVec F S4096 .f32 := (fun x v => Host.reduceAdd x v reducesTo_S4096x128_S4096_d1 h_S_) main_v28 main_cst_5
  let main_v30 : FVec F S4096 .f32 := Host.sqrt main_v29
  let main_v31 : FVec F S4096 .f32 := subf main_v27 main_v30
  let main_cst_6 : FVec F S_ .f32 := constant S_ .f32 0x3E99999A#32
  let main_v32 : FVec F S4096 .f32 := broadcastInDim S4096 ![] bcast_S_S4096 main_cst_6
  let main_v33 : FVec F S4096 .f32 := addf main_v31 main_v32
  let main_cst_7 : FVec F S_ .f32 := constant S_ .f32 0x00000000#32
  let main_v34 : FVec F S4096 .f32 := broadcastInDim S4096 ![] bcast_S_S4096 main_cst_7
  let main_v35 : FVec F S4096 .f32 := maximumf main_v33 main_v34
  let main_cst_8 : FVec F S_ .f32 := constant S_ .f32 0x00000000#32
  let main_v36 : FVec F S_ .f32 := (fun x v => Host.reduceAdd x v reducesTo_S4096_S_d0 h_S_) main_v35 main_cst_8
  fn_part2 (F := F) main_arg2 main_v36

def fn {F : FTy → Type} [FloatOps F] (main_arg0 : FVec F S4096x128 .f32) (main_arg1 : FVec F S4096x128 .f32) (main_arg2 : FVec F S1x1 .f32) : IVec S1x1 1 :=
  let main_v0 : FVec F S4096x128 .f32 := mulf main_arg0 main_arg0
  let main_cst : FVec F S_ .f32 := constant S_ .f32 0x00000000#32
  let main_v1 : FVec F S4096 .f32 := (fun x v => Host.reduceAdd x v reducesTo_S4096x128_S4096_d1 h_S_) main_v0 main_cst
  let main_v2 : FVec F S4096x1 .f32 := broadcastInDim S4096x1 ![0] bcast_S4096_S4096x1_0 main_v1
  let main_v3 : FVec F S1x4096 .f32 := (transpose S1x4096 [1, 0] · transposes_S4096x1_S1x4096_1_0) main_v2
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S128x4096 .f32 := (transpose S128x4096 [1, 0] · transposes_S4096x128_S128x4096_1_0) main_arg0
  let main_v8 : FVec F S4096x4096 .f32 := (fun l r => Host.dotGeneral dot_S4096x128_S128x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_cst_1 : FVec F S_ .f32 := constant S_ .f32 0x2B8CBCCC#32
  let main_v12 : FVec F S4096x4096 .f32 := broadcastInDim S4096x4096 ![] bcast_S_S4096x4096 main_cst_1
  let main_v13 : FVec F S4096x4096 .f32 := maximumf main_v12 main_v11
  let main_v14 : FVec F S4096x4096 .f32 := Host.sqrt main_v13
  let main_v15 : IVec S4096x4096 32 := iotaInDim S4096x4096 32 1
  let main_v16_0 : FVec F S4096x4096 .f32 := (fun x y => (Host.sort2 S4096x4096 1 comparator_f32_i32_d1 x y).1) main_v14 main_v15
  let main_v16_1 : IVec S4096x4096 32 := (fun x y => (Host.sort2 S4096x4096 1 comparator_f32_i32_d1 x y).2) main_v14 main_v15
  let main_v17 : IVec S4096x1 32 := (extractStridedSlice S4096x1 ![0, 2] · slices_S4096x4096_S4096x1_0_2) main_v16_1
  let main_v18 : FVec F S4096x128 .f32 := (fun x i => Host.gather gather_S4096x128_S4096x1_S4096x128_1_0_n_n_0_1_1128 x i) main_arg0 main_v17
  let main_v19 : FVec F S4096x128 .f32 := subf main_arg0 main_arg1
  fn_part1 (F := F) main_arg0 main_arg2 main_v18 main_v19
-- ==== Post_near.lean ====
abbrev S4096x128 : Shape := ⟨2, ![4096, 128]⟩
abbrev S1x1 : Shape := ⟨2, ![1, 1]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩

class Facts : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  slices_S4096x4096_S4096x1_0_2 : S4096x4096.Slices ![0, 2] S4096x1
  bcast_S_S4096x128 : S_.BroadcastsInDim S4096x128 (![] : Fin 0 → Fin S4096x128.rank)
  bcast_S_S4096 : S_.BroadcastsInDim S4096 (![] : Fin 0 → Fin S4096.rank)
  reducesTo_S4096_S_d0 : S4096.ReducesTo [0] S_
  shapeCasts_S_S1x1 : S_.ShapeCasts S1x1
  bcast_S_S1x1 : S_.BroadcastsInDim S1x1 (![] : Fin 0 → Fin S1x1.rank)
  dot_S4096x128_S128x4096_S4096x4096_1_0_0_1_n_n_wf : DotDims.WF S4096x128 S128x4096 S4096x4096 [1] [0] [0] [1] [] []
  gather_S4096x128_S4096x1_S4096x128_1_0_n_n_0_1_1128_wf : GatherDims.WF S4096x128 S4096x1 S4096x128 [1] [0] [] [0] [] 1 ![1, 128]

variable [Facts]

variable {F : FTy → Type} [FloatOps F]
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def comparator_f32_i32_d1 : F .f32 × BitVec 32 → F .f32 × BitVec 32 → BitVec 1 :=
  fun l r =>
    let cst_12 := FloatOps.ofBits .f32 0x00000000#32
    let v46 := FloatOps.cmpf .oeq l.1 cst_12
    let cst_13 := FloatOps.ofBits .f32 0x00000000#32
    let v47 := Scalar.select v46 cst_13 l.1
    let v48 := FloatOps.cmpf .une l.1 l.1
    let cst_14 := FloatOps.ofBits .f32 0x7FC00000#32
    let v49 := Scalar.select v48 cst_14 v47
    let cst_15 := FloatOps.ofBits .f32 0x00000000#32
    let v50 := FloatOps.cmpf .oeq r.1 cst_15
    let cst_16 := FloatOps.ofBits .f32 0x00000000#32
    let v51 := Scalar.select v50 cst_16 r.1
    let v52 := FloatOps.cmpf .une r.1 r.1
    let cst_17 := FloatOps.ofBits .f32 0x7FC00000#32
    let v53 := Scalar.select v52 cst_17 v51
    let v54 := FloatOps.cmpfTotal .lt v49 v53
    v54
def gather_S4096x128_S4096x1_S4096x128_1_0_n_n_0_1_1128 : GatherDims S4096x128 S4096x1 S4096x128 where
  offsetDims := [1]
  collapsedSliceDims := [0]
  operandBatchingDims := []
  startIndicesBatchingDims := []
  startIndexMap := [0]
  indexVectorDim := 1
  sliceSizes := ![1, 128]
  wf := gather_S4096x128_S4096x1_S4096x128_1_0_n_n_0_1_1128_wf

def fn_part2 {F : FTy → Type} [FloatOps F] (main_arg2 : FVec F S1x1 .f32) (main_v36 : FVec F S_ .f32) : IVec S1x1 1 :=
  let main_cst_9 : FVec F S_ .f32 := constant S_ .f32 0x45800000#32
  let main_v37 : FVec F S_ .f32 := Host.divf main_v36 main_cst_9
  let main_v38 : FVec F S1x1 .f32 := shapeCast S1x1 main_v37 shapeCasts_S_S1x1
  let main_cst_10 : FVec F S_ .f32 := constant S_ .f32 0x3749539C#32
  let main_v39 : FVec F S1x1 .f32 := broadcastInDim S1x1 ![] bcast_S_S1x1 main_cst_10
  let main_v40 : FVec F S1x1 .f32 := addf main_v38 main_v39
  let main_v41 : IVec S1x1 1 := cmpf .ole main_arg2 main_v40
  let main_cst_11 : FVec F S_ .f32 := constant S_ .f32 0x3749539C#32
  let main_v42 : FVec F S1x1 .f32 := broadcastInDim S1x1 ![] bcast_S_S1x1 main_cst_11
  let main_v43 : FVec F S1x1 .f32 := addf main_arg2 main_v42
  let main_v44 : IVec S1x1 1 := cmpf .ole main_v38 main_v43
  let main_v45 : IVec S1x1 1 := andi main_v41 main_v44
  main_v45

def fn_part1 {F : FTy → Type} [FloatOps F] (main_arg0 : FVec F S4096x128 .f32) (main_arg2 : FVec F S1x1 .f32) (main_v18 : FVec F S4096x128 .f32) (main_v19 : FVec F S4096x128 .f32) : IVec S1x1 1 :=
  let main_cst_2 : FVec F S_ .f32 := constant S_ .f32 0x358637BD#32
  let main_v20 : FVec F S4096x128 .f32 := broadcastInDim S4096x128 ![] bcast_S_S4096x128 main_cst_2
  let main_v21 : FVec F S4096x128 .f32 := addf main_v19 main_v20
  let main_v22 : FVec F S4096x128 .f32 := subf main_arg0 main_v18
  let main_cst_3 : FVec F S_ .f32 := constant S_ .f32 0x358637BD#32
  let main_v23 : FVec F S4096x128 .f32 := broadcastInDim S4096x128 ![] bcast_S_S4096x128 main_cst_3
  let main_v24 : FVec F S4096x128 .f32 := addf main_v22 main_v23
  let main_v25 : FVec F S4096x128 .f32 := mulf main_v21 main_v21
  let main_cst_4 : FVec F S_ .f32 := constant S_ .f32 0x00000000#32
  let main_v26 : FVec F S4096 .f32 := (fun x v => Host.reduceAdd x v reducesTo_S4096x128_S4096_d1 h_S_) main_v25 main_cst_4
  let main_v27 : FVec F S4096 .f32 := Host.sqrt main_v26
  let main_v28 : FVec F S4096x128 .f32 := mulf main_v24 main_v24
  let main_cst_5 : FVec F S_ .f32 := constant S_ .f32 0x00000000#32
  let main_v29 : FVec F S4096 .f32 := (fun x v => Host.reduceAdd x v reducesTo_S4096x128_S4096_d1 h_S_) main_v28 main_cst_5
  let main_v30 : FVec F S4096 .f32 := Host.sqrt main_v29
  let main_v31 : FVec F S4096 .f32 := subf main_v27 main_v30
  let main_cst_6 : FVec F S_ .f32 := constant S_ .f32 0x3E99999A#32
  let main_v32 : FVec F S4096 .f32 := broadcastInDim S4096 ![] bcast_S_S4096 main_cst_6
  let main_v33 : FVec F S4096 .f32 := addf main_v31 main_v32
  let main_cst_7 : FVec F S_ .f32 := constant S_ .f32 0x00000000#32
  let main_v34 : FVec F S4096 .f32 := broadcastInDim S4096 ![] bcast_S_S4096 main_cst_7
  let main_v35 : FVec F S4096 .f32 := maximumf main_v33 main_v34
  let main_cst_8 : FVec F S_ .f32 := constant S_ .f32 0x00000000#32
  let main_v36 : FVec F S_ .f32 := (fun x v => Host.reduceAdd x v reducesTo_S4096_S_d0 h_S_) main_v35 main_cst_8
  fn_part2 (F := F) main_arg2 main_v36

def fn {F : FTy → Type} [FloatOps F] (main_arg0 : FVec F S4096x128 .f32) (main_arg1 : FVec F S4096x128 .f32) (main_arg2 : FVec F S1x1 .f32) : IVec S1x1 1 :=
  let main_v0 : FVec F S4096x128 .f32 := mulf main_arg0 main_arg0
  let main_cst : FVec F S_ .f32 := constant S_ .f32 0x00000000#32
  let main_v1 : FVec F S4096 .f32 := (fun x v => Host.reduceAdd x v reducesTo_S4096x128_S4096_d1 h_S_) main_v0 main_cst
  let main_v2 : FVec F S4096x1 .f32 := broadcastInDim S4096x1 ![0] bcast_S4096_S4096x1_0 main_v1
  let main_v3 : FVec F S1x4096 .f32 := (transpose S1x4096 [1, 0] · transposes_S4096x1_S1x4096_1_0) main_v2
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S128x4096 .f32 := (transpose S128x4096 [1, 0] · transposes_S4096x128_S128x4096_1_0) main_arg0
  let main_v8 : FVec F S4096x4096 .f32 := (fun l r => Host.dotGeneral dot_S4096x128_S128x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_cst_1 : FVec F S_ .f32 := constant S_ .f32 0x2B8CBCCC#32
  let main_v12 : FVec F S4096x4096 .f32 := broadcastInDim S4096x4096 ![] bcast_S_S4096x4096 main_cst_1
  let main_v13 : FVec F S4096x4096 .f32 := maximumf main_v12 main_v11
  let main_v14 : FVec F S4096x4096 .f32 := Host.sqrt main_v13
  let main_v15 : IVec S4096x4096 32 := iotaInDim S4096x4096 32 1
  let main_v16_0 : FVec F S4096x4096 .f32 := (fun x y => (Host.sort2 S4096x4096 1 comparator_f32_i32_d1 x y).1) main_v14 main_v15
  let main_v16_1 : IVec S4096x4096 32 := (fun x y => (Host.sort2 S4096x4096 1 comparator_f32_i32_d1 x y).2) main_v14 main_v15
  let main_v17 : IVec S4096x1 32 := (extractStridedSlice S4096x1 ![0, 2] · slices_S4096x4096_S4096x1_0_2) main_v16_1
  let main_v18 : FVec F S4096x128 .f32 := (fun x i => Host.gather gather_S4096x128_S4096x1_S4096x128_1_0_n_n_0_1_1128 x i) main_arg0 main_v17
  let main_v19 : FVec F S4096x128 .f32 := subf main_arg0 main_arg1
  fn_part1 (F := F) main_arg0 main_arg2 main_v18 main_v19
-- ==== Pre_generic.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩

class Facts : Prop where
  reducesTo_S4096x128_S4096_d1 : S4096x128.ReducesTo [1] S4096
  h_S_ : 0 < S_.numel
  bcast_S4096_S4096x1_0 : S4096.BroadcastsInDim S4096x1 (![0] : Fin 1 → Fin S4096x1.rank)
  transposes_S4096x1_S1x4096_1_0 : S4096x1.Transposes [1, 0] S1x4096
  bcast_S4096x1_S4096x4096_0_1 : S4096x1.BroadcastsInDim S4096x4096 (![0, 1] : Fin 2 → Fin S4096x4096.rank)
  bcast_S1x4096_S4096x4096_0_1 : S1x4096.BroadcastsInDim S4096x4096 (![0, 1] : Fin 2 → Fin S4096x4096.rank)
  transposes_S4096x128_S128x4096_1_0 : S4096x128.Transposes [1, 0] S128x4096
  bcast_S_S4096x4096 : S_.BroadcastsInDim S4096x4096 (![] : Fin 0 → Fin S4096x4096.rank)
  slices_S4096x4096_S4096x1_0_1 : S4096x4096.Slices ![0, 1] S4096x1
  slices_S4096x4096_S4096x1_0_2 : S4096x4096.Slices ![0, 2] S4096x1
  bcast_S_S4096x1 : S_.BroadcastsInDim S4096x1 (![] : Fin 0 → Fin S4096x1.rank)
  bcast_S_S4096x128 : S_.BroadcastsInDim S4096x128 (![] : Fin 0 → Fin S4096x128.rank)
  bcast_S4096x1_S4096x128_0_1 : S4096x1.BroadcastsInDim S4096x128 (![0, 1] : Fin 2 → Fin S4096x128.rank)
  dot_S4096x128_S128x4096_S4096x4096_1_0_0_1_n_n_wf : DotDims.WF S4096x128 S128x4096 S4096x4096 [1] [0] [0] [1] [] []

variable [Facts]

variable {F : FTy → Type} [FloatOps F]
def dot_S4096x128_S128x4096_S4096x4096_1_0_0_1_n_n : DotDims S4096x128 S128x4096 S4096x4096 where
  lhsContracting := [1]
  rhsContracting := [0]
  lhsNonContracting := [0]
  rhsNonContracting := [1]
  lhsBatch := []
  rhsBatch := []
  wf := dot_S4096x128_S128x4096_S4096x4096_1_0_0_1_n_n_wf
def comparator_f32_i32_d1 : F .f32 × BitVec 32 → F .f32 × BitVec 32 → BitVec 1 :=
  fun l r =>
    let cst_5 := FloatOps.ofBits .f32 0x00000000#32
    let v39 := FloatOps.cmpf .oeq l.1 cst_5
    let cst_6 := FloatOps.ofBits .f32 0x00000000#32
    let v40 := Scalar.select v39 cst_6 l.1
    let v41 := FloatOps.cmpf .une l.1 l.1
    let cst_7 := FloatOps.ofBits .f32 0x7FC00000#32
    let v42 := Scalar.select v41 cst_7 v40
    let cst_8 := FloatOps.ofBits .f32 0x00000000#32
    let v43 := FloatOps.cmpf .oeq r.1 cst_8
    let cst_9 := FloatOps.ofBits .f32 0x00000000#32
    let v44 := Scalar.select v43 cst_9 r.1
    let v45 := FloatOps.cmpf .une r.1 r.1
    let cst_10 := FloatOps.ofBits .f32 0x7FC00000#32
    let v46 := Scalar.select v45 cst_10 v44
    let v47 := FloatOps.cmpfTotal .lt v42 v46
    v47

def fn_part1 {F : FTy → Type} [FloatOps F] (main_arg0 : FVec F S4096x128 .f32) (main_v16_0 : FVec F S4096x4096 .f32) (main_v17 : IVec S4096x1 32) (main_v18 : IVec S4096x1 32) (main_v19 : IVec S4096x1 32) : IVec S4096x128 1 :=
  let main_c : IVec S_ 32 := constantI S_ 32 127#32
  let main_v20 : IVec S4096x1 32 := broadcastInDim S4096x1 ![] bcast_S_S4096x1 main_c
  let main_v21 : IVec S4096x1 32 := andi main_v19 main_v20
  let main_c_2 : IVec S_ 32 := constantI S_ 32 127#32
  let main_v22 : IVec S4096x1 32 := broadcastInDim S4096x1 ![] bcast_S_S4096x1 main_c_2
  let main_v23 : IVec S4096x1 32 := andi main_v17 main_v22
  let main_v24 : IVec S4096x1 1 := cmpi .eq main_v23 main_v21
  let main_c_3 : IVec S_ 32 := constantI S_ 32 127#32
  let main_v25 : IVec S4096x1 32 := broadcastInDim S4096x1 ![] bcast_S_S4096x1 main_c_3
  let main_v26 : IVec S4096x1 32 := andi main_v18 main_v25
  let main_v27 : IVec S4096x1 1 := cmpi .eq main_v26 main_v21
  let main_v28 : IVec S4096x1 1 := andi main_v24 main_v27
  let main_v29 : FVec F S4096x1 .f32 := (extractStridedSlice S4096x1 ![0, 1] · slices_S4096x4096_S4096x1_0_1) main_v16_0
  let main_v30 : FVec F S4096x1 .f32 := (extractStridedSlice S4096x1 ![0, 2] · slices_S4096x4096_S4096x1_0_2) main_v16_0
  let main_v31 : IVec S4096x1 1 := cmpf .olt main_v29 main_v30
  let main_v32 : IVec S4096x1 1 := noti main_v28
  let main_v33 : IVec S4096x1 1 := andi main_v31 main_v32
  let main_v34 : FVec F S4096x128 .f32 := Host.absf main_arg0
  let main_cst_4 : FVec F S_ .f32 := constant S_ .f32 0x7F800000#32
  let main_v35 : FVec F S4096x128 .f32 := broadcastInDim S4096x128 ![] bcast_S_S4096x128 main_cst_4
  let main_v36 : IVec S4096x128 1 := cmpf .olt main_v34 main_v35
  let main_v37 : IVec S4096x128 1 := broadcastInDim S4096x128 ![0, 1] bcast_S4096x1_S4096x128_0_1 main_v33
  let main_v38 : IVec S4096x128 1 := andi main_v36 main_v37
  main_v38

def fn {F : FTy → Type} [FloatOps F] (main_arg0 : FVec F S4096x128 .f32) (main_arg1 : FVec F S4096x128 .f32) : IVec S4096x128 1 :=
  let main_v0 : FVec F S4096x128 .f32 := mulf main_arg0 main_arg0
  let main_cst : FVec F S_ .f32 := constant S_ .f32 0x00000000#32
  let main_v1 : FVec F S4096 .f32 := (fun x v => Host.reduceAdd x v reducesTo_S4096x128_S4096_d1 h_S_) main_v0 main_cst
  let main_v2 : FVec F S4096x1 .f32 := broadcastInDim S4096x1 ![0] bcast_S4096_S4096x1_0 main_v1
  let main_v3 : FVec F S1x4096 .f32 := (transpose S1x4096 [1, 0] · transposes_S4096x1_S1x4096_1_0) main_v2
  let main_v4 : FVec F S4096x4096 .f32 := broadcastInDim S4096x4096 ![0, 1] bcast_S4096x1_S4096x4096_0_1 main_v2
  let main_v5 : FVec F S4096x4096 .f32 := broadcastInDim S4096x4096 ![0, 1] bcast_S1x4096_S4096x4096_0_1 main_v3
  let main_v6 : FVec F S4096x4096 .f32 := addf main_v4 main_v5
  let main_v7 : FVec F S128x4096 .f32 := (transpose S128x4096 [1, 0] · transposes_S4096x128_S128x4096_1_0) main_arg0
  let main_v8 : FVec F S4096x4096 .f32 := (fun l r => Host.dotGeneral dot_S4096x128_S128x4096_S4096x4096_1_0_0_1_n_n none l r) main_arg0 main_v7
  let main_cst_0 : FVec F S_ .f32 := constant S_ .f32 0x40000000#32
  let main_v9 : FVec F S4096x4096 .f32 := broadcastInDim S4096x4096 ![] bcast_S_S4096x4096 main_cst_0
  let main_v10 : FVec F S4096x4096 .f32 := mulf main_v9 main_v8
  let main_v11 : FVec F S4096x4096 .f32 := subf main_v6 main_v10
  let main_cst_1 : FVec F S_ .f32 := constant S_ .f32 0x2B8CBCCC#32
  let main_v12 : FVec F S4096x4096 .f32 := broadcastInDim S4096x4096 ![] bcast_S_S4096x4096 main_cst_1
  let main_v13 : FVec F S4096x4096 .f32 := maximumf main_v12 main_v11
  let main_v14 : FVec F S4096x4096 .f32 := Host.sqrt main_v13
  let main_v15 : IVec S4096x4096 32 := iotaInDim S4096x4096 32 1
  let main_v16_0 : FVec F S4096x4096 .f32 := (fun x y => (Host.sort2 S4096x4096 1 comparator_f32_i32_d1 x y).1) main_v14 main_v15
  let main_v16_1 : IVec S4096x4096 32 := (fun x y => (Host.sort2 S4096x4096 1 comparator_f32_i32_d1 x y).2) main_v14 main_v15
  let main_v17 : IVec S4096x1 32 := (extractStridedSlice S4096x1 ![0, 1] · slices_S4096x4096_S4096x1_0_1) main_v16_1
  let main_v18 : IVec S4096x1 32 := (extractStridedSlice S4096x1 ![0, 2] · slices_S4096x4096_S4096x1_0_2) main_v16_1
  let main_v19 : IVec S4096x1 32 := iotaInDim S4096x1 32 0
  fn_part1 (F := F) main_arg0 main_v16_0 main_v17 main_v18 main_v19
-- ==== Pre_zero.lean ====
abbrev S4096x128 : Shape := ⟨2, ![4096, 128]⟩
abbrev S_ : Shape := ⟨0, ![]⟩

class Facts : Prop where
  bcast_S_S4096x128 : S_.BroadcastsInDim S4096x128 (![] : Fin 0 → Fin S4096x128.rank)

variable [Facts]

def fn {F : FTy → Type} [FloatOps F] (main_arg0 : FVec F S4096x128 .f32) (main_arg1 : FVec F S4096x128 .f32) : IVec S4096x128 1 :=
  let main_cst : FVec F S_ .f32 := constant S_ .f32 0x00000000#32
  let main_v0 : FVec F S4096x128 .f32 := broadcastInDim S4096x128 ![] bcast_S_S4096x128 main_cst
  let main_v1 : IVec S4096x128 1 := cmpf .oeq main_arg0 main_v0
  let main_cst_0 : FVec F S_ .f32 := constant S_ .f32 0x00000000#32
  let main_v2 : FVec F S4096x128 .f32 := broadcastInDim S4096x128 ![] bcast_S_S4096x128 main_cst_0
  let main_v3 : IVec S4096x128 1 := cmpf .oeq main_arg1 main_v2
  let main_v4 : IVec S4096x128 1 := andi main_v1 main_v3
  main_v4
-- ==== Kernel.lean ====
abbrev S4096x128 : Shape := ⟨2, ![4096, 128]⟩
abbrev S1x1 : Shape := ⟨2, ![1, 1]⟩
abbrev S1024x128 : Shape := ⟨2, ![1024, 128]⟩
abbrev S8x4096 : Shape := ⟨2, ![8, 4096]⟩
abbrev S8x128 : Shape := ⟨2, ![8, 128]⟩
abbrev S1024x4096 : Shape := ⟨2, ![1024, 4096]⟩
abbrev S1x4096 : Shape := ⟨2, ![1, 4096]⟩
abbrev S64x128 : Shape := ⟨2, ![64, 128]⟩
abbrev S1x128 : Shape := ⟨2, ![1, 128]⟩
abbrev S64x256 : Shape := ⟨2, ![64, 256]⟩
abbrev S64 : Shape := ⟨1, ![64]⟩
abbrev S64x1 : Shape := ⟨2, ![64, 1]⟩
abbrev S1024x1 : Shape := ⟨2, ![1024, 1]⟩
abbrev S1024 : Shape := ⟨1, ![1024]⟩
abbrev S1x1024x1 : Shape := ⟨3, ![1, 1024, 1]⟩
abbrev S1 : Shape := ⟨1, ![1]⟩
abbrev S1x1x1 : Shape := ⟨3, ![1, 1, 1]⟩

abbrev nBuf : Space → Nat
  | .hbm => 3
  | .vmem => 6
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S1x1, .f32⟩
  | .local _ .vmem, ⟨0, _⟩ => ⟨S1024x128, .f32⟩
  | .local _ .vmem, ⟨1, _⟩ => ⟨S1024x128, .f32⟩
  | .local _ .vmem, ⟨2, _⟩ => ⟨S4096x128, .f32⟩
  | .local _ .vmem, ⟨3, _⟩ => ⟨S1x1, .f32⟩
  | .local _ .vmem, ⟨4, _⟩ => ⟨S8x4096, .bf16⟩
  | .local _ .vmem, ⟨5, _⟩ => ⟨S4096x128, .bf16⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 4 → Bool
  | ⟨0, _⟩ => true
  | ⟨1, _⟩ => true
  | ⟨2, _⟩ => true
  | ⟨3, _⟩ => true
  | _ => false

abbrev sig : RefSig :=
  ofTc nBuf bufTy 0 4 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_scratch0 : Ref sig .tc := ⟨.vmem, 4, rfl⟩
abbrev cc0_scratch1 : Ref sig .tc := ⟨.vmem, 5, rfl⟩
abbrev cc0_sem0_0 : DmaSem sig := 0
abbrev cc0_sem0_1 : DmaSem sig := 1
abbrev cc0_sem1_0 : DmaSem sig := 2
abbrev cc0_sem2_0 : DmaSem sig := 3

abbrev nD : Nat := 1
abbrev τ : Topo := Topo.v7x

variable {F : FTy → Type} [FloatOps F]

abbrev grid0 : Pipeline.Grid := ⟨1, ![4], ![false]⟩

def k0_off1 (i : grid0.Coords) : Fin 2 → Nat :=
  let arg0 : BitVec 32 := BitVec.ofNat 32 (i 0).val
  let c1024_i32 : BitVec 32 := 1024#32
  let v3 : BitVec 32 := Scalar.muli arg0 c1024_i32
  let v4 : Index := Scalar.indexCast v3
  let c0 : Index := 0#32
  ![v4.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 2 → Memref sig .tc .vmem S1024x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S4096x128 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 1 → Memref sig .tc .vmem S1x1 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]
-- ==== ReferenceIdeal.lean ====
abbrev S4096x128 : Shape := ⟨2, ![4096, 128]⟩
abbrev S_ : Shape := ⟨0, ![]⟩
abbrev S4096 : Shape := ⟨1, ![4096]⟩
abbrev S4096x1 : Shape := ⟨2, ![4096, 1]⟩
abbrev S1x4096 : Shape := ⟨2, ![1, 4096]⟩
abbrev S4096x4096 : Shape := ⟨2, ![4096, 4096]⟩
abbrev S128x4096 : Shape := ⟨2, ![128, 4096]⟩
abbrev S1 : Shape := ⟨1, ![1]⟩
abbrev S1x1 : Shape := ⟨2, ![1, 1]⟩

abbrev nBuf : Space → Nat
  | .hbm => 74
  | .vmem => 0
  | .smem => 0
  | _ => 0

abbrev bufTy : (tb : Table) → Fin (tcTables nBuf tb) → BufTy
  | .hbm, ⟨0, _⟩ => ⟨S4096x128, .f32⟩
  | .hbm, ⟨1, _⟩ => ⟨S4096x128, .f32⟩
  | .hbm, ⟨2, _⟩ => ⟨S4096x128, .f32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S1x4096, .f32⟩
  | .hbm, ⟨7, _⟩ => ⟨S4096x4096, .f32⟩
  | .hbm, ⟨8, _⟩ => ⟨S4096x4096, .f32⟩
  | .hbm, ⟨9, _⟩ => ⟨S4096x4096, .f32⟩
  | .hbm, ⟨10, _⟩ => ⟨S128x4096, .f32⟩
  | .hbm, ⟨11, _⟩ => ⟨S4096x4096, .f32⟩
  | .hbm, ⟨12, _⟩ => ⟨S_, .f32⟩
  | .hbm, ⟨13, _⟩ => ⟨S4096x4096, .f32⟩
  | .hbm, ⟨14, _⟩ => ⟨S4096x4096, .f32⟩
  | .hbm, ⟨15, _⟩ => ⟨S4096x4096, .f32⟩
  | .hbm, ⟨16, _⟩ => ⟨S_, .f32⟩
  | .hbm, ⟨17, _⟩ => ⟨S_, .f32⟩
  | .hbm, ⟨18, _⟩ => ⟨S4096x4096, .f32⟩
  | .hbm, ⟨19, _⟩ => ⟨S4096x4096, .f32⟩
  | .hbm, ⟨20, _⟩ => ⟨S4096x4096, .f32⟩
  | .hbm, ⟨21, _⟩ => ⟨S4096x4096, .i32⟩
  | .hbm, ⟨22, _⟩ => ⟨S4096x4096, .f32⟩
  | .hbm, ⟨23, _⟩ => ⟨S4096x4096, .i32⟩
  | .hbm, ⟨24, _⟩ => ⟨S4096x1, .i32⟩
  | .hbm, ⟨25, _⟩ => ⟨S4096, .i32⟩
  | .hbm, ⟨26, _⟩ => ⟨S_, .i32⟩
  | .hbm, ⟨27, _⟩ => ⟨S4096, .i32⟩
  | .hbm, ⟨28, _⟩ => ⟨S4096, .i1⟩
  | .hbm, ⟨29, _⟩ => ⟨S_, .i32⟩
  | .hbm, ⟨30, _⟩ => ⟨S4096, .i32⟩
  | .hbm, ⟨31, _⟩ => ⟨S4096, .i32⟩
  | .hbm, ⟨32, _⟩ => ⟨S4096, .i32⟩
  | .hbm, ⟨33, _⟩ => ⟨S4096x1, .i32⟩
  | .hbm, ⟨34, _⟩ => ⟨S1, .i32⟩
  | .hbm, ⟨35, _⟩ => ⟨S_, .i32⟩
  | .hbm, ⟨36, _⟩ => ⟨S4096x1, .i32⟩
  | .hbm, ⟨37, _⟩ => ⟨S4096x1, .i1⟩
  | .hbm, ⟨38, _⟩ => ⟨S1x1, .i32⟩
  | .hbm, ⟨39, _⟩ => ⟨S4096x1, .i32⟩
  | .hbm, ⟨40, _⟩ => ⟨S4096x1, .i1⟩
  | .hbm, ⟨41, _⟩ => ⟨S4096x1, .i1⟩
  | .hbm, ⟨42, _⟩ => ⟨S_, .i1⟩
  | .hbm, ⟨43, _⟩ => ⟨S4096, .i1⟩
  | .hbm, ⟨44, _⟩ => ⟨S4096x128, .f32⟩
  | .hbm, ⟨45, _⟩ => ⟨S4096x128, .i1⟩
  | .hbm, ⟨46, _⟩ => ⟨S_, .f32⟩
  | .hbm, ⟨47, _⟩ => ⟨S4096x128, .f32⟩
  | .hbm, ⟨48, _⟩ => ⟨S4096x128, .f32⟩
  | .hbm, ⟨49, _⟩ => ⟨S4096x128, .f32⟩
  | .hbm, ⟨50, _⟩ => ⟨S_, .f32⟩
  | .hbm, ⟨51, _⟩ => ⟨S4096x128, .f32⟩
  | .hbm, ⟨52, _⟩ => ⟨S4096x128, .f32⟩
  | .hbm, ⟨53, _⟩ => ⟨S4096x128, .f32⟩
  | .hbm, ⟨54, _⟩ => ⟨S_, .f32⟩
  | .hbm, ⟨55, _⟩ => ⟨S4096, .f32⟩
  | .hbm, ⟨56, _⟩ => ⟨S4096, .f32⟩
  | .hbm, ⟨57, _⟩ => ⟨S4096x128, .f32⟩
  | .hbm, ⟨58, _⟩ => ⟨S4096x128, .f32⟩
  | .hbm, ⟨59, _⟩ => ⟨S_, .f32⟩
  | .hbm, ⟨60, _⟩ => ⟨S4096, .f32⟩
  | .hbm, ⟨61, _⟩ => ⟨S4096, .f32⟩
  | .hbm, ⟨62, _⟩ => ⟨S4096, .f32⟩
  | .hbm, ⟨63, _⟩ => ⟨S_, .f32⟩
  | .hbm, ⟨64, _⟩ => ⟨S4096, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S_, .f32⟩
  | .hbm, ⟨70, _⟩ => ⟨S_, .f32⟩
  | .hbm, ⟨71, _⟩ => ⟨S_, .f32⟩
  | .hbm, ⟨72, _⟩ => ⟨S_, .f32⟩
  | .hbm, ⟨73, _⟩ => ⟨S1x1, .f32⟩
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_cst : Ref sig .tc := ⟨.hbm, 3, rfl⟩
abbrev main_v1 : Ref sig .tc := ⟨.hbm, 4, rfl⟩
abbrev main_v2 : Ref sig .tc := ⟨.hbm, 5, rfl⟩
abbrev main_v3 : Ref sig .tc := ⟨.hbm, 6, rfl⟩
abbrev main_v4 : Ref sig .tc := ⟨.hbm, 7, rfl⟩
abbrev main_v5 : Ref sig .tc := ⟨.hbm, 8, rfl⟩
abbrev main_v6 : Ref sig .tc := ⟨.hbm, 9, rfl⟩
abbrev main_v7 : Ref sig .tc := ⟨.hbm, 10, rfl⟩
abbrev main_v8 : Ref sig .tc := ⟨.hbm, 11, rfl⟩
abbrev main_cst_0 : Ref sig .tc := ⟨.hbm, 12, rfl⟩
abbrev main_v9 : Ref sig .tc := ⟨.hbm, 13, rfl⟩
abbrev main_v10 : Ref sig .tc := ⟨.hbm, 14, rfl⟩
abbrev main_v11 : Ref sig .tc := ⟨.hbm, 15, rfl⟩
abbrev main_cst_1 : Ref sig .tc := ⟨.hbm, 16, rfl⟩
abbrev main_call0_v0 : Ref sig .tc := ⟨.hbm, 17, rfl⟩
abbrev main_call0_v1 : Ref sig .tc := ⟨.hbm, 18, rfl⟩
abbrev main_v12 : Ref sig .tc := ⟨.hbm, 19, rfl⟩
abbrev main_v13 : Ref sig .tc := ⟨.hbm, 20, rfl⟩
abbrev main_call1_v0 : Ref sig .tc := ⟨.hbm, 21, rfl⟩
abbrev main_call1_v1_0 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_call2_c : Ref sig .tc := ⟨.hbm, 26, rfl⟩
abbrev main_call2_v0 : Ref sig .tc := ⟨.hbm, 27, rfl⟩
abbrev main_call2_v1 : Ref sig .tc := ⟨.hbm, 28, rfl⟩
abbrev main_call2_c_0 : Ref sig .tc := ⟨.hbm, 29, rfl⟩
abbrev main_call2_v2 : Ref sig .tc := ⟨.hbm, 30, rfl⟩
abbrev main_call2_v3 : Ref sig .tc := ⟨.hbm, 31, rfl⟩
abbrev main_call2_v4 : Ref sig .tc := ⟨.hbm, 32, rfl⟩
abbrev main_call2_v5 : Ref sig .tc := ⟨.hbm, 33, rfl⟩
abbrev main_call2_c_1 : Ref sig .tc := ⟨.hbm, 34, rfl⟩
abbrev main_call2_c_2 : Ref sig .tc := ⟨.hbm, 35, rfl⟩
abbrev main_call2_v6 : Ref sig .tc := ⟨.hbm, 36, rfl⟩
abbrev main_call2_v7 : Ref sig .tc := ⟨.hbm, 37, rfl⟩
abbrev main_call2_v8 : Ref sig .tc := ⟨.hbm, 38, rfl⟩
abbrev main_call2_v9 : Ref sig .tc := ⟨.hbm, 39, rfl⟩
abbrev main_call2_v10 : Ref sig .tc := ⟨.hbm, 40, rfl⟩
abbrev main_call2_v11 : Ref sig .tc := ⟨.hbm, 41, rfl⟩
abbrev main_call2_c_3 : Ref sig .tc := ⟨.hbm, 42, rfl⟩
abbrev main_call2_v12 : Ref sig .tc := ⟨.hbm, 43, rfl⟩
abbrev main_call2_v13 : Ref sig .tc := ⟨.hbm, 44, rfl⟩
abbrev main_call2_v14 : Ref sig .tc := ⟨.hbm, 45, rfl⟩
abbrev main_call2_cst : Ref sig .tc := ⟨.hbm, 46, rfl⟩
abbrev main_call2_v15 : Ref sig .tc := ⟨.hbm, 47, rfl⟩
abbrev main_v17 : Ref sig .tc := ⟨.hbm, 48, rfl⟩
abbrev main_v18 : Ref sig .tc := ⟨.hbm, 49, rfl⟩
abbrev main_cst_2 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_cst_3 : Ref sig .tc := ⟨.hbm, 54, rfl⟩
abbrev main_v22 : Ref sig .tc := ⟨.hbm, 55, rfl⟩
abbrev main_v23 : Ref sig .tc := ⟨.hbm, 56, rfl⟩
abbrev main_v24 : Ref sig .tc := ⟨.hbm, 57, rfl⟩
abbrev main_v25 : Ref sig .tc := ⟨.hbm, 58, rfl⟩
abbrev main_cst_4 : Ref sig .tc := ⟨.hbm, 59, rfl⟩
abbrev main_v26 : Ref sig .tc := ⟨.hbm, 60, rfl⟩
abbrev main_v27 : Ref sig .tc := ⟨.hbm, 61, rfl⟩
abbrev main_v28 : Ref sig .tc := ⟨.hbm, 62, rfl⟩
abbrev main_cst_5 : Ref sig .tc := ⟨.hbm, 63, rfl⟩
abbrev main_v29 : Ref sig .tc := ⟨.hbm, 64, rfl⟩
abbrev main_v30 : Ref sig .tc := ⟨.hbm, 65, rfl⟩
abbrev main_cst_6 : Ref sig .tc := ⟨.hbm, 66, rfl⟩
abbrev main_v31 : Ref sig .tc := ⟨.hbm, 67, rfl⟩
abbrev main_v32 : Ref sig .tc := ⟨.hbm, 68, rfl⟩
abbrev main_cst_7 : Ref sig .tc := ⟨.hbm, 69, rfl⟩
abbrev main_v33 : Ref sig .tc := ⟨.hbm, 70, rfl⟩
abbrev main_cst_8 : Ref sig .tc := ⟨.hbm, 71, rfl⟩
abbrev main_v34 : Ref sig .tc := ⟨.hbm, 72, rfl⟩
abbrev main_v35 : Ref sig .tc := ⟨.hbm, 73, rfl⟩

abbrev nD : Nat := 1
abbrev τ : Topo := Topo.v7x

variable {F : FTy → Type} [FloatOps F]
-- ==== Proof.Literals.lean ====
/- The programs' literals as real numbers, and the sum of reals among the extended reals. -/
module

public import Idealize.ShloMosaic.PureOps.Ideal

@[expose] public section

noncomputable section

namespace Cert.Literals

open Idealize.ShloMosaic

/-- The f32 nearest 1e-12, the least squared distance. -/
def least : ℝ := 9223372 / 2 ^ 63

theorem least_pos : 0 < least := by unfold least; positivity

theorem floor_eq : Ideal.ofBits .f32 0x2B8CBCCC#32 = (least : EReal) := by
  simp [Ideal.ofBits, Ideal.ieee, least]
  rw [← EReal.coe_mul]
  norm_num

theorem two_eq : Ideal.ofBits .f32 0x40000000#32 = ((2 : ℝ) : EReal) := by
  simp [Ideal.ofBits, Ideal.ieee]
  rw [← EReal.coe_mul]
  norm_num

theorem minusTwo_eq : Ideal.ofBits .f32 0xC0000000#32 = ((-2 : ℝ) : EReal) := by
  simp [Ideal.ofBits, Ideal.ieee]
  rw [← EReal.coe_mul]
  norm_num

theorem share_eq : Ideal.ofBits .f32 0x39800000#32 = ((1 / 4096 : ℝ) : EReal) := by
  simp [Ideal.ofBits, Ideal.ieee]
  rw [← EReal.coe_mul]
  norm_num

theorem count_eq : Ideal.ofBits .f32 0x45800000#32 = ((4096 : ℝ) : EReal) := by
  simp [Ideal.ofBits, Ideal.ieee]
  rw [← EReal.coe_mul]
  norm_num

/-- A finite sum of reals is the same sum among the extended reals. -/
theorem coe_sum {ι : Type} (s : Finset ι) (f : ι → ℝ) : ((∑ k ∈ s, f k : ℝ) : EReal) = ∑ k ∈ s, (f k : EReal) :=
  map_sum (⟨⟨Real.toEReal, EReal.coe_zero⟩, EReal.coe_add⟩ : ℝ →+ EReal) f s

/-- The greater of two reals is the same among the extended reals. -/
theorem coe_max (a b : ℝ) : ((max a b : ℝ) : EReal) = max (a : EReal) (b : EReal) :=
  EReal.coe_strictMono.monotone.map_max

/-- The root of a nonnegative real. -/
theorem sqrt_coe {r : ℝ} (h : 0 ≤ r) : Ideal.sqrt (r : EReal) = (Real.sqrt r : EReal) := by
  rw [Ideal.sqrt_coe, if_neg (not_lt.mpr h)]

end Cert.Literals

end
-- ==== Proof.Block.lean ====
/- What one grid point of the kernel computes, in regular form: the printed body is unrolled (16 sub-blocks of 64 rows,
   32 groups of 128 columns each); here it is written with a sub-block number and a group number, and the body's stored
   value is shown to be the same expression. -/
module

public import proofs.«01_k».proof.Proof.Gen.KernelIdeal.Value
public import Idealize.ShloMosaic.Init

@[expose] public section

set_option maxRecDepth 65536

noncomputable section

namespace Cert.KernelIdeal.Block

open Idealize.ShloMosaic Idealize.ShloMosaic.TcCoe Idealize.ShloMosaic.Tactic Idealize.SL.Sem
open Cert.KernelIdeal Cert.KernelIdeal.Gen Cert.KernelIdeal.Value

variable {F : FTy → Type} [FloatOps F]

/-- Column group `k` of the row of squared norms lies inside the row. -/
theorem sq_slices (k : ℕ) (hk : k < 32) : S1x4096.Slices ![0, 128 * k] S1x128 :=
  ⟨rfl, fun a => by
    have h0 : (![0, 128 * k] : Fin 2 → ℕ) 0 = 0 := rfl
    have h1 : (![0, 128 * k] : Fin 2 → ℕ) 1 = 128 * k := rfl
    match a with
    | ⟨0, _⟩ => show (0 : ℕ) + 1 ≤ 1; omega
    | ⟨1, _⟩ => show 128 * k + 128 ≤ 4096; omega⟩

/-- Sub-block `b`, column group `k` of the products lies inside them. -/
theorem dot_slices (b : Fin 16) (k : ℕ) (hk : k < 32) : S1024x4096.Slices ![64 * b.val, 128 * k] S64x128 :=
  ⟨rfl, fun a => by
    have hb := b.isLt
    match a with
    | ⟨0, _⟩ => show 64 * b.val + 64 ≤ 1024; omega
    | ⟨1, _⟩ => show 128 * k + 128 ≤ 4096; omega⟩

/-- The relative squared distances of sub-block `b`'s 64 rows to the 128 columns of group `k`. -/
def group (sq : Vec F S1x4096 .bf16) (g : FVec F S1024x4096 .bf16) (b : Fin 16) (k : ℕ) (hk : k < 32) : FVec F S64x128 .bf16 :=
  addf (broadcastTo S64x128 (extractStridedSlice S1x128 ![0, 128 * k] sq (sq_slices k hk)) broadcasts_S1x128_S64x128)
    (extractStridedSlice S64x128 ![64 * b.val, 128 * k] g (dot_slices b k hk))

/-- A block filled with the constant +∞. -/
def full : FVec F S64x128 .bf16 := broadcast S64x128 (Scalar.ofBits .bf16 0x7F80#16)

/-- The least entry of each lane over the first `n` groups. -/
def least (sq : Vec F S1x4096 .bf16) (g : FVec F S1024x4096 .bf16) (b : Fin 16) (n : ℕ) : n ≤ 32 → FVec F S64x128 .bf16 :=
  Nat.rec (fun _ => full) (fun k ih h => minimumf (ih (by omega)) (group sq g b k (by omega))) n

/-- The second least entry of each lane over the first `n` groups. -/
def second (sq : Vec F S1x4096 .bf16) (g : FVec F S1024x4096 .bf16) (b : Fin 16) (n : ℕ) : n ≤ 32 → FVec F S64x128 .bf16 :=
  Nat.rec (fun _ => full) (fun k ih h => minimumf (ih (by omega)) (maximumf (least sq g b k (by omega)) (group sq g b k (by omega)))) n

/-- The remainder mod 128 of each row's number, as printed. -/
def rowLane (b : Fin 16) : IVec S64x128 32 :=
  have w : BitVec 32 := Scalar.select (Scalar.cmpi .eq 128#32 0#32) 1#32 128#32
  have r : IVec S64x128 32 := remsi (addi (iota .tc S64x128 32 [0] iota_S64x128_d0_w32) (broadcast S64x128 (BitVec.ofNat 32 (64 * b.val)))) (broadcast S64x128 w)
  select (andi (xori (cmpi .slt r (broadcast S64x128 0#32)) (broadcastTo S64x128 (broadcast S64x128 (Scalar.cmpi .slt w 0#32)) broadcasts_S64x128_S64x128))
    (cmpi .ne r (broadcast S64x128 0#32))) (addi r (broadcast S64x128 w)) r

/-- The candidates of sub-block `b`: each lane's least entry, the row's own lane replaced by +∞, and each lane's second least. -/
def cands (sq : Vec F S1x4096 .bf16) (g : FVec F S1024x4096 .bf16) (b : Fin 16) : FVec F S64x256 .bf16 :=
  concatenate S64x256 1 [⟨S64x128, select (cmpi .eq (iota .tc S64x128 32 [1] iota_S64x128_d1_w32) (rowLane b)) full (least sq g b 32 le_rfl)⟩,
    ⟨S64x128, second sq g b 32 le_rfl⟩] concatenates_S64x128_S64x128_S64x256_d1

/-- The least entry of each row of 256 candidates. -/
def rowMin (x : FVec F S64x256 .bf16) : FVec F S64x1 .bf16 :=
  shapeCast S64x1 (multiReduction .minimumf [1] S64 x 0x7F80#16 reduces_S64x256_S64 (.inr rfl) rfl) shapeCasts_S64_S64x1

/-- The candidates with those equal to the row's least replaced by +∞. -/
def others (x : FVec F S64x256 .bf16) : FVec F S64x256 .bf16 :=
  select (cmpf .oeq x (broadcastTo S64x256 (rowMin x) broadcasts_S64x1_S64x256)) (broadcast S64x256 (Scalar.ofBits .bf16 0x7F80#16)) x

/-- What sub-block `b` finds for its 64 rows: the least candidate other than the least. -/
def found (sq : Vec F S1x4096 .bf16) (g : FVec F S1024x4096 .bf16) (b : Fin 16) : FVec F S64x1 .f32 :=
  extf .f32 (rowMin (others (cands sq g b))) bitsLt_bf16_f32

/-- What the 16 sub-blocks find for the block's 1024 rows. -/
def foundAll (sq : Vec F S1x4096 .bf16) (g : FVec F S1024x4096 .bf16) : FVec F S1024x1 .f32 :=
  concatenate S1024x1 0 (List.ofFn fun b : Fin 16 => (⟨S64x1, found sq g b⟩ : (s : Shape) × (s.Idx → F .f32)))
    concatenates_S64x1_S64x1_S64x1_S64x1_S64x1_S64x1_S64x1_S64x1_S64x1_S64x1_S64x1_S64x1_S64x1_S64x1_S64x1_S64x1_S1024x1_d0

/-- The block's contribution added to the running sum `acc`: `x` the block's rows of the inputs, `p` those of the positives. -/
def step (x p : Vec F S1024x128 .f32) (xb : Vec F S4096x128 .bf16) (sq : Vec F S1x4096 .bf16) (acc : Vec F S1x1 .f32) : FVec F S1x1 .f32 :=
  k0_pay1176 x (foundAll sq (k0_pay4 x xb)) (mulf x x) p acc

/-- The rows of the inputs the point reads: the printed offsets. -/
abbrev rowsRect (i : grid0.Coords) : Rect S4096x128 := Rect.unit (s := S4096x128) (k0_off1 i) S1024x128.size (k0_off1_inb i)

theorem hz : (![0, 0] : Fin 2 → ℕ) = fun _ => 0 := funext fun a => by fin_cases a <;> rfl

/-- The row of squared norms the point reads: the first of the scratch's eight. -/
abbrev rowRect : Rect S8x4096 := Rect.unit (s := S8x4096) ![0, 0] S1x4096.size inb_S8x4096_S1x4096_0_0

set_option maxHeartbeats 4000000 in
/-- The last point's output block: the running sum with the point's contribution, times 1/4096. -/
theorem out_C (c : Dev nD) (i : grid0.Coords) (arg1 : Memref sig .tc .vmem S1024x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S8x4096 .bf16) (harg4 : arg4.IsWhole) (arg5 : Memref sig .tc .vmem S4096x128 .bf16) (harg5 : arg5.IsWhole) (hc0 : ¬cond0_0 i) (hc1 : ¬cond0_1 i) (hc2 : cond0_2 i)
    (x0 : Vec F S1024x128 .f32) (x1 : Vec F S4096x128 .f32) (xo2 : Vec F S1x1 .f32) (xs0 : Vec F S8x4096 .bf16) (xs1 : Vec F S4096x128 .bf16) :
    out0_C_2 c i arg1 harg1 arg2 harg2 arg3 harg3 arg4 harg4 arg5 harg5 hc0 hc1 hc2 x0 x1 xo2 xs0 xs1
      = k0_pay1 (step (View.ld x1 (rowsRect i)) x0 xs1 (View.ld xs0 rowRect) xo2) := by
  have key : out0_C_2 c i arg1 harg1 arg2 harg2 arg3 harg3 arg4 harg4 arg5 harg5 hc0 hc1 hc2 x0 x1 xo2 xs0 xs1
      = k0_pay1 (step (View.readAt (Elt F) arg2.view (rowsRect i).toLoadRect (harg2.unread x1))
      (View.readAt (Elt F) arg1.view (Rect.unit (s := S1024x128) ![0, 0] S1024x128.size inb_S1024x128_S1024x128_0_0).toLoadRect (harg1.unread x0))
      (View.readAt (Elt F) arg5.view (Rect.unit (s := S4096x128) ![0, 0] S4096x128.size inb_S4096x128_S4096x128_0_0).toLoadRect (harg5.unread xs1))
      (View.readAt (Elt F) arg4.view (rowRect).toLoadRect (harg4.unread xs0))
      (View.readAt (Elt F) arg3.view (Rect.unit (s := S1x1) ![0, 0] S1x1.size inb_S1x1_S1x1_0_0).toLoadRect (harg3.unread xo2))) := by
    unfold out0_C_2
    rw [View.read_writes_eq_canon _ _ _ (cover0_C_2 c i arg1 harg1 arg2 harg2 arg3 harg3 arg4 harg4 arg5 harg5 hc0 hc1 hc2 x0 x1 xo2 xs0 xs1)]
    unfold kernelRun0_C
    dsimp only
    sl_unfold_words
    rw [View.canon_cons_unit_zero (S := S1x1) hz, View.readCov_unit_zero (S := S1x1) _ hz]
    sl_kernel_rfl
  rw [key]
  simp only [View.readAt_eq_ld, harg1.read_unread, harg2.read_unread, harg3.read_unread, harg4.read_unread, harg5.read_unread,
    View.ld_unit_zero (S := S1024x128) hz, View.ld_unit_zero (S := S4096x128) hz, View.ld_unit_zero (S := S1x1) hz]

set_option maxHeartbeats 4000000 in
/-- The middle points' output block: the running sum with the point's contribution. -/
theorem out_B (c : Dev nD) (i : grid0.Coords) (arg1 : Memref sig .tc .vmem S1024x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S8x4096 .bf16) (harg4 : arg4.IsWhole) (arg5 : Memref sig .tc .vmem S4096x128 .bf16) (harg5 : arg5.IsWhole) (hc0 : ¬cond0_0 i) (hc1 : ¬cond0_1 i) (hc2 : ¬cond0_2 i)
    (x0 : Vec F S1024x128 .f32) (x1 : Vec F S4096x128 .f32) (xo2 : Vec F S1x1 .f32) (xs0 : Vec F S8x4096 .bf16) (xs1 : Vec F S4096x128 .bf16) :
    out0_B_2 c i arg1 harg1 arg2 harg2 arg3 harg3 arg4 harg4 arg5 harg5 hc0 hc1 hc2 x0 x1 xo2 xs0 xs1
      = step (View.ld x1 (rowsRect i)) x0 xs1 (View.ld xs0 rowRect) xo2 := by
  have key : out0_B_2 c i arg1 harg1 arg2 harg2 arg3 harg3 arg4 harg4 arg5 harg5 hc0 hc1 hc2 x0 x1 xo2 xs0 xs1
      = step (View.readAt (Elt F) arg2.view (rowsRect i).toLoadRect (harg2.unread x1))
      (View.readAt (Elt F) arg1.view (Rect.unit (s := S1024x128) ![0, 0] S1024x128.size inb_S1024x128_S1024x128_0_0).toLoadRect (harg1.unread x0))
      (View.readAt (Elt F) arg5.view (Rect.unit (s := S4096x128) ![0, 0] S4096x128.size inb_S4096x128_S4096x128_0_0).toLoadRect (harg5.unread xs1))
      (View.readAt (Elt F) arg4.view (rowRect).toLoadRect (harg4.unread xs0))
      (View.readAt (Elt F) arg3.view (Rect.unit (s := S1x1) ![0, 0] S1x1.size inb_S1x1_S1x1_0_0).toLoadRect (harg3.unread xo2)) := by
    unfold out0_B_2
    rw [View.read_writes_eq_canon _ _ _ (cover0_B_2 c i arg1 harg1 arg2 harg2 arg3 harg3 arg4 harg4 arg5 harg5 hc0 hc1 hc2 x0 x1 xo2 xs0 xs1)]
    unfold kernelRun0_B
    dsimp only
    sl_unfold_words
    rw [View.canon_unit_zero (S := S1x1) hz]
    sl_kernel_rfl
  rw [key]
  simp only [View.readAt_eq_ld, harg1.read_unread, harg2.read_unread, harg3.read_unread, harg4.read_unread, harg5.read_unread,
    View.ld_unit_zero (S := S1024x128) hz, View.ld_unit_zero (S := S4096x128) hz, View.ld_unit_zero (S := S1x1) hz]

set_option maxHeartbeats 4000000 in
/-- The first point's output block: zero with the point's contribution added, the scratch as just written. -/
theorem out_A (c : Dev nD) (i : grid0.Coords) (arg1 : Memref sig .tc .vmem S1024x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S8x4096 .bf16) (harg4 : arg4.IsWhole) (arg5 : Memref sig .tc .vmem S4096x128 .bf16) (harg5 : arg5.IsWhole) (hc0 : cond0_0 i) (hc1 : cond0_1 i) (hc2 : ¬cond0_2 i)
    (x0 : Vec F S1024x128 .f32) (x1 : Vec F S4096x128 .f32) :
    out0_A_2 c i arg1 harg1 arg2 harg2 arg3 harg3 arg4 harg4 arg5 harg5 hc0 hc1 hc2 x0 x1
      = step (View.ld x1 (rowsRect i)) x0 (k0_pay3 x1) (View.ld (k0_pay2 x1) rowRect) k0_pay1175 := by
  have key : out0_A_2 c i arg1 harg1 arg2 harg2 arg3 harg3 arg4 harg4 arg5 harg5 hc0 hc1 hc2 x0 x1
      = step (View.readAt (Elt F) arg2.view (rowsRect i).toLoadRect (harg2.unread x1))
      (View.readAt (Elt F) arg1.view (Rect.unit (s := S1024x128) ![0, 0] S1024x128.size inb_S1024x128_S1024x128_0_0).toLoadRect (harg1.unread x0))
      (arg5.view.readCov [⟨Rect.unit (s := S4096x128) ![0, 0] S4096x128.size inb_S4096x128_S4096x128_0_0, k0_pay3 (View.readAt (Elt F) arg2.view (Rect.unit (s := S4096x128) ![0, 0] S4096x128.size inb_S4096x128_S4096x128_0_0).toLoadRect (harg2.unread x1))⟩] (Rect.unit (s := S4096x128) ![0, 0] S4096x128.size inb_S4096x128_S4096x128_0_0).toLoadRect)
      (arg4.view.readCov [⟨Rect.unit (s := S8x4096) ![0, 0] S8x4096.size inb_S8x4096_S8x4096_0_0, k0_pay2 (View.readAt (Elt F) arg2.view (Rect.unit (s := S4096x128) ![0, 0] S4096x128.size inb_S4096x128_S4096x128_0_0).toLoadRect (harg2.unread x1))⟩] (rowRect).toLoadRect)
      k0_pay1175 := by
    unfold out0_A_2
    rw [View.read_writes_eq_canon _ _ _ (cover0_A_2 c i arg1 harg1 arg2 harg2 arg3 harg3 arg4 harg4 arg5 harg5 hc0 hc1 hc2 x0 x1)]
    unfold kernelRun0_A
    dsimp only
    sl_unfold_words
    rw [View.canon_cons_unit_zero (S := S1x1) hz, View.readCov_unit_zero (S := S1x1) _ hz]
    sl_kernel_rfl
  rw [key]
  rw [View.readCov_unit_zero (S := S4096x128) _ hz, View.readCov_eq_canon_ld _ _ _ (fun y => ⟨_, List.mem_singleton_self _, View.mem_set_unit_zero (S := S8x4096) hz inb_S8x4096_S8x4096_0_0 y⟩),
    View.canon_unit_zero (S := S8x4096) hz]
  simp only [View.readAt_eq_ld, harg1.read_unread, harg2.read_unread, harg3.read_unread, harg4.read_unread, harg5.read_unread,
    View.ld_unit_zero (S := S1024x128) hz, View.ld_unit_zero (S := S4096x128) hz, View.ld_unit_zero (S := S1x1) hz]

/-- What the first point leaves in the scratch of the norms. -/
theorem scratch_A_0 (c : Dev nD) (i : grid0.Coords) (arg1 : Memref sig .tc .vmem S1024x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S8x4096 .bf16) (harg4 : arg4.IsWhole) (arg5 : Memref sig .tc .vmem S4096x128 .bf16) (harg5 : arg5.IsWhole) (hc0 : cond0_0 i) (hc1 : cond0_1 i) (hc2 : ¬cond0_2 i)
    (x0 : Vec F S1024x128 .f32) (x1 : Vec F S4096x128 .f32) :
    sout0_A_0 c i arg1 harg1 arg2 harg2 arg3 harg3 arg4 harg4 arg5 harg5 hc0 hc1 hc2 x0 x1 = k0_pay2 x1 := by
  unfold sout0_A_0
  rw [View.read_writes_eq_canon _ _ _ (scover0_A_0 c i arg1 harg1 arg2 harg2 arg3 harg3 arg4 harg4 arg5 harg5 hc0 hc1 hc2 x0 x1)]
  unfold kernelRun0_A
  dsimp only
  sl_unfold_words
  rw [View.canon_unit_zero (S := S8x4096) hz]
  simp only [View.readAt_eq_ld, harg2.read_unread, View.ld_unit_zero (S := S4096x128) hz]

/-- What the first point leaves in the scratch of the copy of the inputs. -/
theorem scratch_A_1 (c : Dev nD) (i : grid0.Coords) (arg1 : Memref sig .tc .vmem S1024x128 .f32) (harg1 : arg1.IsWhole) (arg2 : Memref sig .tc .vmem S4096x128 .f32) (harg2 : arg2.IsWhole) (arg3 : Memref sig .tc .vmem S1x1 .f32) (harg3 : arg3.IsWhole) (arg4 : Memref sig .tc .vmem S8x4096 .bf16) (harg4 : arg4.IsWhole) (arg5 : Memref sig .tc .vmem S4096x128 .bf16) (harg5 : arg5.IsWhole) (hc0 : cond0_0 i) (hc1 : cond0_1 i) (hc2 : ¬cond0_2 i)
    (x0 : Vec F S1024x128 .f32) (x1 : Vec F S4096x128 .f32) :
    sout0_A_1 c i arg1 harg1 arg2 harg2 arg3 harg3 arg4 harg4 arg5 harg5 hc0 hc1 hc2 x0 x1 = k0_pay3 x1 := by
  unfold sout0_A_1
  rw [View.read_writes_eq_canon _ _ _ (scover0_A_1 c i arg1 harg1 arg2 harg2 arg3 harg3 arg4 harg4 arg5 harg5 hc0 hc1 hc2 x0 x1)]
  unfold kernelRun0_A
  dsimp only
  sl_unfold_words
  rw [View.canon_unit_zero (S := S4096x128) hz]
  simp only [View.readAt_eq_ld, harg2.read_unread, View.ld_unit_zero (S := S4096x128) hz]

end Cert.KernelIdeal.Block

end
-- ==== Proof.Select.lean ====
/- Choosing by lanes. 4096 values lie in 128 lanes of 32; each lane keeps its two least, one lane's least (the row's own
   value) is struck out, and the second least distinct value of what is left is taken. Over extended reals: where the
   second of the sought values is strictly greater than the first and not both lie in the struck lane, this is the second
   least of all the values but the row's own. -/
module

public import Mathlib.Data.EReal.Basic
public import Mathlib.Data.Fintype.Basic
public import Mathlib.Data.Finset.Lattice.Fold

@[expose] public section

noncomputable section

namespace Cert.Select

/-- The least of the first `n` values (⊤ of none). -/
def lo (t : ℕ → EReal) (n : ℕ) : EReal := Nat.rec ⊤ (fun k ih => min ih (t k)) n

/-- The second least of the first `n` values, repeats counted (⊤ of fewer than two), as the running pair keeps it. -/
def hi (t : ℕ → EReal) (n : ℕ) : EReal := Nat.rec ⊤ (fun k ih => min ih (max (lo t k) (t k))) n

theorem lo_succ (t : ℕ → EReal) (n : ℕ) : lo t (n + 1) = min (lo t n) (t n) := rfl

theorem hi_succ (t : ℕ → EReal) (n : ℕ) : hi t (n + 1) = min (hi t n) (max (lo t n) (t n)) := rfl

/-- The least is below every value. -/
theorem lo_le (t : ℕ → EReal) : ∀ (n k : ℕ), k < n → lo t n ≤ t k
  | n + 1, k, h => by
    rw [lo_succ]
    rcases Nat.lt_succ_iff_lt_or_eq.mp h with h | rfl
    · exact (min_le_left _ _).trans (lo_le t n k h)
    · exact min_le_right _ _

/-- The least is one of the values. -/
theorem lo_mem (t : ℕ → EReal) : ∀ n : ℕ, 0 < n → ∃ k < n, lo t n = t k
  | n + 1, _ => by
    rw [lo_succ]
    rcases Nat.eq_zero_or_pos n with rfl | hn
    · exact ⟨0, Nat.one_pos, min_eq_right le_top⟩
    · obtain ⟨k, hk, e⟩ := lo_mem t n hn
      rcases min_choice (lo t n) (t n) with h | h
      · exact ⟨k, by omega, h.trans e⟩
      · exact ⟨n, by omega, h⟩

/-- The second least is at most the greater of any two of the values. -/
theorem hi_le (t : ℕ → EReal) : ∀ (n a b : ℕ), a < b → b < n → hi t n ≤ max (t a) (t b)
  | n + 1, a, b, hab, hb => by
    rw [hi_succ]
    rcases Nat.lt_succ_iff_lt_or_eq.mp hb with h | rfl
    · exact (min_le_left _ _).trans (hi_le t n a b hab h)
    · exact (min_le_right _ _).trans (max_le_max_right _ (lo_le t b a hab))

/-- The second least is ⊤, or the greater of some two of the values. -/
theorem hi_mem (t : ℕ → EReal) : ∀ n : ℕ, hi t n = ⊤ ∨ ∃ a b, a < b ∧ b < n ∧ hi t n = max (t a) (t b)
  | 0 => .inl rfl
  | n + 1 => by
    rw [hi_succ]
    rcases min_choice (hi t n) (max (lo t n) (t n)) with h | h
    · rw [h]
      rcases hi_mem t n with h' | ⟨a, b, hab, hb, e⟩
      · exact .inl h'
      · exact .inr ⟨a, b, hab, by omega, e⟩
    · rw [h]
      rcases Nat.eq_zero_or_pos n with rfl | hn
      · exact .inl (max_eq_left le_top)
      · obtain ⟨k, hk, e⟩ := lo_mem t n hn
        exact .inr ⟨k, n, hk, by omega, by rw [e]⟩

/-- Lane `l` of the 4096 values. -/
abbrev lane (w : ℕ → EReal) (l k : ℕ) : EReal := w (128 * k + l)

/-- Lane `l`'s least, struck out in lane `l0`. -/
def first (w : ℕ → EReal) (l0 l : ℕ) : EReal := if l = l0 then ⊤ else lo (lane w l) 32

/-- Lane `l`'s second least. -/
def other (w : ℕ → EReal) (l : ℕ) : EReal := hi (lane w l) 32

/-- The row's own value `w i` is the least; of the others `w j1` is strictly the least and `w j2` the second least; and
    `j1`, `j2` do not both lie in `i`'s lane. -/
structure Ranked (w : ℕ → EReal) (i j1 j2 : ℕ) : Prop where
  hi : i < 4096
  h1 : j1 < 4096
  h2 : j2 < 4096
  ne1 : j1 ≠ i
  ne2 : j2 ≠ i
  ne : j2 ≠ j1
  least : w i ≤ w j1
  least2 : w i ≤ w j2
  fst : w j1 < w j2
  snd : ∀ j < 4096, j ≠ i → j ≠ j1 → w j2 ≤ w j
  lanes : ¬(j1 % 128 = i % 128 ∧ j2 % 128 = i % 128)

namespace Ranked

variable {w : ℕ → EReal} {i j1 j2 : ℕ} (h : Ranked w i j1 j2)

include h

/-- A value other than the row's own is `w j1` or at least `w j2`. -/
theorem val {j : ℕ} (hj : j < 4096) (hji : j ≠ i) : w j = w j1 ∨ w j2 ≤ w j := by
  by_cases e : j = j1
  · exact .inl (by rw [e])
  · exact .inr (h.snd j hj hji e)

theorem ge1 {j : ℕ} (hj : j < 4096) (hji : j ≠ i) : w j1 ≤ w j := by
  rcases h.val hj hji with e | e
  · exact e.ge
  · exact h.fst.le.trans e

/-- A lane's struck least is `w j1` or at least `w j2`. -/
theorem first_val {l : ℕ} (hl : l < 128) : first w (i % 128) l = w j1 ∨ w j2 ≤ first w (i % 128) l := by
  unfold first
  split
  · exact .inr le_top
  · next hne =>
    obtain ⟨k, hk, e⟩ := lo_mem (lane w l) 32 (by omega)
    rw [e]
    exact h.val (by omega) (by omega)

/-- A lane's second least is `w j1` or at least `w j2`. -/
theorem other_val {l : ℕ} (hl : l < 128) : other w l = w j1 ∨ w j2 ≤ other w l := by
  unfold other
  rcases hi_mem (lane w l) 32 with e | ⟨a, b, hab, hb, e⟩
  · exact .inr (e ▸ le_top)
  · rw [e]
    by_cases ha : 128 * a + l = i
    · have e1 : max (lane w l a) (lane w l b) = w (128 * b + l) :=
        max_eq_right (by
          show w (128 * a + l) ≤ w (128 * b + l)
          rw [ha]
          exact h.least.trans (h.ge1 (by omega) (by omega)))
      rw [e1]
      exact h.val (by omega) (by omega)
    · rcases h.val (j := 128 * a + l) (by omega) ha with ea | ea
      · by_cases hbi : 128 * b + l = i
        · refine .inl ?_
          show max (w (128 * a + l)) (w (128 * b + l)) = _
          rw [hbi, ea]
          exact max_eq_left h.least
        · rcases h.val (j := 128 * b + l) (by omega) hbi with eb | eb
          · exact .inl (by show max (w (128 * a + l)) (w (128 * b + l)) = _; rw [ea, eb, max_self])
          · exact .inr (eb.trans (le_max_right _ _))
      · exact .inr (ea.trans (le_max_left _ _))

/-- `hi_le` for two values in either order. -/
theorem other_le {a b : ℕ} (ha : a < 4096) (hb : b < 4096) (hab : a ≠ b) (hl : a % 128 = b % 128) :
    other w (a % 128) ≤ max (w a) (w b) := by
  have ea : w a = lane w (a % 128) (a / 128) := congrArg w (by omega)
  have eb : w b = lane w (a % 128) (b / 128) := congrArg w (by omega)
  rcases lt_or_gt_of_ne (show a / 128 ≠ b / 128 by omega) with hlt | hlt
  · rw [ea, eb]; exact hi_le _ 32 _ _ hlt (by omega)
  · rw [ea, eb, max_comm]; exact hi_le _ 32 _ _ hlt (by omega)

theorem first_le {a : ℕ} (ha : a < 4096) (hl : a % 128 ≠ i % 128) : first w (i % 128) (a % 128) ≤ w a := by
  unfold first
  rw [if_neg hl, show w a = lane w (a % 128) (a / 128) from congrArg w (by omega)]
  exact lo_le _ 32 _ (by omega)

/-- Some candidate is `w j1`. -/
theorem exists_fst : ∃ l < 128, first w (i % 128) l = w j1 ∨ other w l = w j1 := by
  refine ⟨j1 % 128, Nat.mod_lt _ (by omega), ?_⟩
  by_cases hl : j1 % 128 = i % 128
  · right
    rcases h.other_val (Nat.mod_lt j1 (by omega : 0 < 128)) with e | e
    · exact e
    · exact absurd (e.trans (h.other_le h.h1 h.hi h.ne1 hl)) (not_le.mpr (by rw [max_eq_left h.least]; exact h.fst))
  · left
    rcases h.first_val (Nat.mod_lt j1 (by omega : 0 < 128)) with e | e
    · exact e
    · exact absurd (e.trans (h.first_le h.h1 hl)) (not_le.mpr h.fst)

/-- Some candidate is `w j2`. -/
theorem exists_snd : ∃ l < 128, first w (i % 128) l = w j2 ∨ other w l = w j2 := by
  refine ⟨j2 % 128, Nat.mod_lt _ (by omega), ?_⟩
  by_cases hl : j2 % 128 = i % 128
  · right
    have hle : other w (j2 % 128) ≤ w j2 := (h.other_le h.h2 h.hi h.ne2 hl).trans (max_eq_left h.least2).le
    refine le_antisymm hle ?_
    rcases hi_mem (lane w (j2 % 128)) 32 with e | ⟨a, b, hab, hb, e⟩
    · exact le_of_le_of_eq le_top e.symm
    · have hlt := Nat.mod_lt j2 (by omega : 0 < 128)
      have hl1 : ¬ j1 % 128 = i % 128 := fun c => h.lanes ⟨c, hl⟩
      show w j2 ≤ Select.hi _ 32
      rw [e]
      by_cases ha : 128 * a + j2 % 128 = i
      · exact (h.snd (128 * b + j2 % 128) (by omega) (by omega) (by omega)).trans (le_max_right _ _)
      · exact (h.snd (128 * a + j2 % 128) (by omega) ha (by omega)).trans (le_max_left _ _)
  · by_cases hl1 : j2 % 128 = j1 % 128
    · right
      have hle : other w (j2 % 128) ≤ w j2 := (h.other_le h.h2 h.h1 h.ne hl1).trans (max_eq_left h.fst.le).le
      refine le_antisymm hle ?_
      rcases hi_mem (lane w (j2 % 128)) 32 with e | ⟨a, b, hab, hb, e⟩
      · exact le_of_le_of_eq le_top e.symm
      · have hlt := Nat.mod_lt j2 (by omega : 0 < 128)
        show w j2 ≤ Select.hi _ 32
        rw [e]
        by_cases ha : 128 * a + j2 % 128 = j1
        · exact (h.snd (128 * b + j2 % 128) (by omega) (by omega) (by omega)).trans (le_max_right _ _)
        · exact (h.snd (128 * a + j2 % 128) (by omega) (by omega) ha).trans (le_max_left _ _)
    · left
      refine le_antisymm (h.first_le h.h2 hl) ?_
      have hlt := Nat.mod_lt j2 (by omega : 0 < 128)
      unfold first
      rw [if_neg hl]
      obtain ⟨k, hk, e⟩ := lo_mem (lane w (j2 % 128)) 32 (by omega)
      rw [e]
      exact h.snd _ (by omega) (by omega) (by omega)

end Ranked

/-- The candidates in one row of 256: the 128 lanes' struck leasts, then their second leasts. -/
def cand (w : ℕ → EReal) (l0 : ℕ) (q : Fin 256) : EReal := if q.val < 128 then first w l0 q.val else other w (q.val - 128)

/-- The least of `c`. -/
def least (c : Fin 256 → EReal) : EReal := Finset.univ.inf c

/-- The least of the entries of `c` other than its least. -/
def next (c : Fin 256 → EReal) : EReal := Finset.univ.inf fun q => if c q = least c then ⊤ else c q

/-- What the candidates choose is the second least of the values other than the row's own. -/
theorem next_cand {w : ℕ → EReal} {i j1 j2 : ℕ} (h : Ranked w i j1 j2) : next (cand w (i % 128)) = w j2 := by
  have val : ∀ q, cand w (i % 128) q = w j1 ∨ w j2 ≤ cand w (i % 128) q := fun q => by
    unfold cand
    split
    · exact h.first_val (by omega)
    · exact h.other_val (by omega)
  have mem : ∀ x : EReal, (∃ l < 128, first w (i % 128) l = x ∨ other w l = x) → ∃ q, cand w (i % 128) q = x := by
    rintro x ⟨l, hl, e | e⟩
    · exact ⟨⟨l, by omega⟩, by unfold cand; rw [if_pos hl]; exact e⟩
    · exact ⟨⟨l + 128, by omega⟩, by unfold cand; rw [if_neg (by simp)]; simpa using e⟩
  have hleast : least (cand w (i % 128)) = w j1 := by
    obtain ⟨q, hq⟩ := mem _ h.exists_fst
    refine le_antisymm (hq ▸ Finset.inf_le (Finset.mem_univ q)) (Finset.le_inf fun q _ => ?_)
    rcases val q with e | e
    · exact e.ge
    · exact h.fst.le.trans e
  unfold next
  rw [hleast]
  obtain ⟨q, hq⟩ := mem _ h.exists_snd
  refine le_antisymm ?_ (Finset.le_inf fun q _ => ?_)
  · refine (Finset.inf_le (Finset.mem_univ q)).trans ?_
    simp only [hq, if_neg h.fst.ne', le_refl]
  · split
    · exact le_top
    · next hne => exact (val q).resolve_left hne

end Cert.Select

end
-- ==== Proof.Lanes.lean ====
/- The selection one grid point makes, read at a row over the extended reals: the unrolled lane minima are the running
   pairs of `Select`, and the 16 sub-blocks' results laid under one another are, in each of the 1024 rows, the second
   least of the candidates. -/
module

public import proofs.«01_k».proof.Proof.Block
public import proofs.«01_k».proof.Proof.Select
public import Idealize.ShloMosaic.Lib.Pointwise
public import Idealize.ShloMosaic.Lib.WordCmp

@[expose] public section

set_option maxRecDepth 65536

noncomputable section

namespace Cert.KernelIdeal.Lanes

open Idealize.ShloMosaic Idealize.ShloMosaic.TcCoe Idealize.ShloMosaic.Tactic Idealize.SL.Sem
open Cert.KernelIdeal Cert.KernelIdeal.Gen Cert.KernelIdeal.Value Cert.KernelIdeal.Block

/-- The +∞ of the lane minima. -/
theorem top_bf16 : Ideal.ofBits .bf16 0x7F80#16 = ⊤ := by simp [Ideal.ofBits, Ideal.ieee]

/-- Row `n`'s relative squared distances by column number (⊤ past the last column). -/
def rel (sq : Vec Ideal S1x4096 .bf16) (g : FVec Ideal S1024x4096 .bf16) (n : Fin 1024) (j : ℕ) : EReal :=
  if h : j < 4096 then sq (ix2 0 ⟨j, h⟩) + g (ix2 n ⟨j, h⟩) else ⊤

/-- Row `r` of sub-block `b`. -/
abbrev row (b : Fin 16) (r : Fin 64) : Fin 1024 := ⟨64 * b.val + r.val, by omega⟩

variable (sq : Vec Ideal S1x4096 .bf16) (g : FVec Ideal S1024x4096 .bf16) (b : Fin 16) (r : Fin 64) (l : Fin 128)

/-- An entry of a column group is the row's relative distance at that column. -/
theorem group_apply (k : ℕ) (hk : k < 32) : group sq g b k hk (ix2 r l) = Select.lane (rel sq g (row b r)) l.val k := by
  have e : group sq g b k hk (ix2 r l) = sq (ix2 0 ⟨128 * k + l.val, by omega⟩) + g (ix2 (row b r) ⟨128 * k + l.val, by omega⟩) := by
    pointwise [group]
  rw [e, Select.lane, rel, dif_pos (show 128 * k + l.val < 4096 by omega)]

theorem full_apply (i : S64x128.Idx) : full (F := Ideal) i = ⊤ := top_bf16

/-- The running minimum of a lane. -/
theorem least_apply : ∀ (n : ℕ) (h : n ≤ 32), least sq g b n h (ix2 r l) = Select.lo (Select.lane (rel sq g (row b r)) l.val) n
  | 0, _ => full_apply _
  | n + 1, h => by
    show min (least sq g b n (by omega) (ix2 r l)) (group sq g b n (by omega) (ix2 r l)) = _
    rw [least_apply n, group_apply, Select.lo_succ]

/-- The running second minimum of a lane. -/
theorem second_apply : ∀ (n : ℕ) (h : n ≤ 32), second sq g b n h (ix2 r l) = Select.hi (Select.lane (rel sq g (row b r)) l.val) n
  | 0, _ => full_apply _
  | n + 1, h => by
    show min (second sq g b n (by omega) (ix2 r l)) (max (least sq g b n (by omega) (ix2 r l)) (group sq g b n (by omega) (ix2 r l))) = _
    rw [second_apply n, least_apply, group_apply, Select.hi_succ]

/-- The printed signed remainder of a row's number is its remainder mod 128: checked on each of the 1024 rows. -/
theorem rem_word : ∀ (b : Fin 16) (r : Fin 64), rowLane b (ix2 r 0) = BitVec.ofNat 32 ((64 * b.val + r.val) % 128) := by
  have key : ∀ (b : Fin 16) (r : Fin 64),
      (have w : BitVec 32 := Scalar.select (Scalar.cmpi .eq 128#32 0#32) 1#32 128#32
       have x : BitVec 32 := IntOp.remsi .vector (IntOp.addi (BitVec.ofNat 32 r.val) (BitVec.ofNat 32 (64 * b.val))) w
       Scalar.select (IntOp.andi (IntOp.xori (IntOp.cmpi .slt x 0#32) (Scalar.cmpi .slt w 0#32)) (IntOp.cmpi .ne x 0#32)) (IntOp.addi x w) x)
        = BitVec.ofNat 32 ((64 * b.val + r.val) % 128) := by
    decide +kernel
  intro b r
  pointwise [rowLane]
  exact key b r

theorem rowLane_apply : rowLane b (ix2 r l) = BitVec.ofNat 32 ((64 * b.val + r.val) % 128) := by
  rw [← rem_word b r]
  pointwise [rowLane]

/-- The row's 256 candidates. -/
theorem cands_apply (q : Fin 256) :
    cands sq g b (ix2 r q) = Select.cand (rel sq g (row b r)) ((row b r).val % 128) q := by
  pointwise [cands]
  unfold Select.cand
  by_cases hq : q.val < 128
  · rw [dif_pos hq, if_pos hq, rowLane_apply, full_apply, least_apply, WordCmp.cmpi_eq_eq_toNat]
    have e1 : (BitVec.ofNat 32 q.val).toNat = q.val := Nat.mod_eq_of_lt (by omega)
    have e2 : (BitVec.ofNat 32 ((64 * b.val + r.val) % 128)).toNat = (64 * b.val + r.val) % 128 := Nat.mod_eq_of_lt (by omega)
    rw [e1, e2]
    unfold Select.first Scalar.select
    by_cases h : q.val = (64 * b.val + r.val) % 128
    · rw [if_pos h]; simp [h]
    · rw [if_neg h]; simp [h]
  · rw [dif_neg hq, if_neg hq, second_apply]
    rfl

/-- A row's least candidate. -/
theorem rowMin_apply (x : FVec Ideal S64x256 .bf16) : rowMin x (ix2 r 0) = Select.least (fun q => x (ix2 r q)) := by
  pointwise [rowMin]
  rw [top_bf16]
  rfl

theorem others_apply (x : FVec Ideal S64x256 .bf16) (q : Fin 256) :
    others x (ix2 r q) = if x (ix2 r q) = Select.least (fun q => x (ix2 r q)) then ⊤ else x (ix2 r q) := by
  pointwise [others]
  rw [top_bf16, rowMin_apply]

/-- What a sub-block finds in a row: the second least of the row's candidates. -/
theorem found_apply : found sq g b (ix2 r 0) = Select.next (Select.cand (rel sq g (row b r)) ((row b r).val % 128)) := by
  have e : found sq g b (ix2 r 0) = rowMin (others (cands sq g b)) (ix2 r 0) := by
    pointwise [found]
  rw [e, rowMin_apply]
  simp only [others_apply, cands_apply]
  rfl

/-- What the grid point finds in a row. -/
theorem foundAll_apply (n : Fin 1024) : foundAll sq g (ix2 n 0) = Select.next (Select.cand (rel sq g n) (n.val % 128)) := by
  have hb : n.val / 64 < 16 := by omega
  have hr : n.val % 64 < 64 := by omega
  have hn : row ⟨n.val / 64, hb⟩ ⟨n.val % 64, hr⟩ = n := Fin.ext (by show 64 * (n.val / 64) + n.val % 64 = n.val; omega)
  have e : foundAll sq g (ix2 n 0) = found sq g ⟨n.val / 64, hb⟩ (ix2 ⟨n.val % 64, hr⟩ 0) :=
    concatenate_ofFn_apply (t := S1024x1) (s₁ := S64x1) 0 (fun b => found sq g b) _ rfl 64 rfl (ix2 n 0) ⟨n.val / 64, hb⟩ rfl _ rfl
      (fun a ha => by
        match a with
        | ⟨0, _⟩ => exact absurd rfl ha
        | ⟨1, _⟩ => rfl)
  rw [e, found_apply, hn]

end Cert.KernelIdeal.Lanes

end
-- ==== Proof.KernelValue.lean ====
/- What the kernel's result holds over the extended reals: each grid point adds its 1024 rows' hinge terms to the running
   sum, and the last point multiplies the sum by 1/4096. -/
module

public import proofs.«01_k».proof.Proof.Lanes

@[expose] public section

set_option maxRecDepth 65536

noncomputable section

namespace Cert.KernelIdeal.Loss

open Idealize.ShloMosaic Idealize.ShloMosaic.TcCoe Idealize.ShloMosaic.Tactic Idealize.SL.Sem
open Cert.KernelIdeal Cert.KernelIdeal.Gen Cert.KernelIdeal.Value Cert.KernelIdeal.Block

/-- An array of 4096 rows of 128 extended reals. -/
abbrev Rows : Type := S4096x128.Idx → EReal

/-- The printed constants: the shift of a coordinate difference, the floor of a squared distance, the margin, −2 and 1/4096. -/
abbrev shift : EReal := Ideal.ofBits .f32 0x358637BD#32
abbrev floor : EReal := Ideal.ofBits .f32 0x2B8CBCCC#32
abbrev margin : EReal := Ideal.ofBits .f32 0x3E99999A#32
abbrev minusTwo : EReal := Ideal.ofBits .f32 0xC0000000#32
abbrev share : EReal := Ideal.ofBits .f32 0x39800000#32

/-- The squared norm of row `n`. -/
def norm2 (A : Rows) (n : Fin 4096) : EReal := ∑ k : Fin 128, A (ix2 n k) * A (ix2 n k)

/-- Row `n`'s squared distance to row `j` less its own squared norm, as the kernel computes it (⊤ past the last row). -/
def rdist (A : Rows) (n : Fin 4096) (j : ℕ) : EReal :=
  if h : j < 4096 then norm2 A ⟨j, h⟩ + ∑ k : Fin 128, minusTwo * A (ix2 n k) * A (ix2 ⟨j, h⟩ k) else ⊤

/-- Row `n`'s distance to its positive. -/
def dPos (A P : Rows) (n : Fin 4096) : EReal :=
  Ideal.sqrt (∑ k : Fin 128, (A (ix2 n k) - P (ix2 n k) + shift) * (A (ix2 n k) - P (ix2 n k) + shift))

/-- Row `n`'s distance to the negative the kernel finds. -/
def dNeg (A : Rows) (n : Fin 4096) : EReal :=
  Ideal.sqrt (max floor (Select.next (Select.cand (rdist A n) (n.val % 128)) + norm2 A n))

/-- Row `n`'s hinge term. -/
def hinge (A P : Rows) (n : Fin 4096) : EReal := max (dPos A P n - dNeg A n + margin) 0

/-- Row `r` of block `t`. -/
abbrev rowOf (t : Fin 4) (r : Fin 1024) : Fin 4096 := ⟨1024 * t.val + r.val, by omega⟩

/-- The hinge terms of block `t`'s rows. -/
def blockSum (A P : Rows) (t : Fin 4) : EReal := ∑ r : Fin 1024, hinge A P (rowOf t r)

/-- The kernel's result. -/
def loss (A P : Rows) : EReal := (blockSum A P 0 + blockSum A P 1 + blockSum A P 2 + blockSum A P 3) * share

/-- A point's step adds its rows' hinge terms, once its four operands hold what they should. -/
theorem step_apply (A P : Rows) (t : Fin 4) (x p : Vec Ideal S1024x128 .f32) (xb : Vec Ideal S4096x128 .bf16) (sq : Vec Ideal S1x4096 .bf16)
    (acc : Vec Ideal S1x1 .f32) (hx : ∀ r k, x (ix2 r k) = A (ix2 (rowOf t r) k)) (hp : ∀ r k, p (ix2 r k) = P (ix2 (rowOf t r) k))
    (hxb : ∀ j k, xb (ix2 j k) = A (ix2 j k)) (hsq : ∀ j, sq (ix2 0 j) = norm2 A j) :
    step x p xb sq acc (ix2 0 0) = acc (ix2 0 0) + blockSum A P t := by
  have hrel : ∀ r, Lanes.rel sq (k0_pay4 x xb) r = rdist A (rowOf t r) := fun r => funext fun j => by
    unfold Lanes.rel rdist
    split
    · next h =>
      have e : k0_pay4 x xb (ix2 r ⟨j, h⟩) = ∑ k : Fin 128, minusTwo * x (ix2 r k) * xb (ix2 ⟨j, h⟩ k) := by
        pointwise [k0_pay4]
      rw [e, hsq]
      simp only [hx, hxb]
    · rfl
  have hneg : ∀ r, foundAll sq (k0_pay4 x xb) (ix2 r 0) = Select.next (Select.cand (rdist A (rowOf t r)) ((rowOf t r).val % 128)) := fun r => by
    rw [Lanes.foundAll_apply, hrel]
    congr 2
    show r.val % 128 = (1024 * t.val + r.val) % 128
    omega
  pointwise [step, k0_pay1176]
  simp only [hneg, hx, hp]
  simp only [Fin.sum_univ_one, Fin.sum_univ_succ (n := 0), Finset.univ_eq_empty, Finset.sum_empty, add_zero]
  rfl

/-- The scratch of squared norms: each of its rows holds the norms. -/
theorem norms_apply (A : Vec Ideal S4096x128 .f32) (j : Fin 4096) : k0_pay2 A (ix2 0 j) = norm2 A j := by
  unfold norm2
  pointwise [k0_pay2]

/-- The scratch of inputs holds the inputs. -/
theorem copy_apply (A : Vec Ideal S4096x128 .f32) (j : Fin 4096) (k : Fin 128) : k0_pay3 A (ix2 j k) = A (ix2 j k) := by
  pointwise [k0_pay3]

/-- The row of norms read off the scratch. -/
theorem row_apply (B : Vec Ideal S8x4096 .bf16) (j : Fin 4096) : View.ld B rowRect (ix2 0 j) = B (ix2 0 j) := by
  show B _ = B _
  congr 1
  funext a
  apply Fin.ext
  match a with
  | ⟨0, _⟩ => rfl
  | ⟨1, _⟩ => show 0 + 1 * j.val = j.val; omega

/-- The printed offset of the rows a point reads. -/
theorem off_eq (t : Fin cfg0.N) : k0_off1 (grid0.coords t) 0 = 1024 * t.val ∧ k0_off1 (grid0.coords t) 1 = 0 := by
  rcases fin_N0 t with rfl | rfl | rfl | rfl <;> decide

/-- The rows of the inputs a point reads. -/
theorem rows_apply (A : Vec Ideal S4096x128 .f32) (t : Fin cfg0.N) (ht : t.val < 4) (r : Fin 1024) (k : Fin 128) :
    View.ld A (rowsRect (grid0.coords t)) (ix2 r k) = A (ix2 (rowOf ⟨t.val, ht⟩ r) k) := by
  obtain ⟨h0, h1⟩ := off_eq t
  show A _ = A _
  congr 1
  funext a
  apply Fin.ext
  match a with
  | ⟨0, _⟩ => show k0_off1 (grid0.coords t) 0 + 1 * r.val = 1024 * t.val + r.val; omega
  | ⟨1, _⟩ => show k0_off1 (grid0.coords t) 1 + 1 * k.val = k.val; omega

variable (m : (ℓ : Loc nD τ sig) → Buf (Elt Ideal) ℓ)

/-- The inputs and the positives at launch. -/
abbrev inp (c : Dev nD) : Rows := m ((c : Thread nD τ).loc main_arg0)
abbrev pos (c : Dev nD) : Rows := m ((c : Thread nD τ).loc main_arg1)

/-- A point's block of the positives. -/
theorem pos_block (c : Dev nD) (t : Fin cfg0.N) (ht : t.val < 4) (r : Fin 1024) (k : Fin 128) :
    (iblk m c 0 t : Vec Ideal S1024x128 .f32) (ix2 r k) = pos m c (ix2 (rowOf ⟨t.val, ht⟩ r) k) := by
  have hi : win0_0.index t 0 = t.val ∧ win0_0.index t 1 = 0 := by
    rcases fin_N0 t with rfl | rfl | rfl | rfl <;> decide
  unfold iblk
  rw [View.read_apply]
  show V m c main_arg1 _ = m (c.tc.loc main_arg1) _
  unfold V
  congr 1
  funext a
  apply Fin.ext
  match a with
  | ⟨0, _⟩ => show win0_0.index t 0 * 1024 + 1 * r.val = 1024 * t.val + r.val; rw [hi.1]; omega
  | ⟨1, _⟩ => show win0_0.index t 1 * 128 + 1 * k.val = k.val; rw [hi.2]; omega

/-- Every point's block of the inputs is the whole of them. -/
theorem inp_block (c : Dev nD) (t : Fin cfg0.N) : (iblk m c 1 t : Vec Ideal S4096x128 .f32) = inp m c := by
  have hi : win0_1.index t 0 = 0 ∧ win0_1.index t 1 = 0 := by
    rcases fin_N0 t with rfl | rfl | rfl | rfl <;> decide
  funext j
  unfold iblk
  rw [View.read_apply]
  show V m c main_arg0 _ = m (c.tc.loc main_arg0) _
  unfold V
  congr 1
  funext a
  apply Fin.ext
  match a with
  | ⟨0, _⟩ => show win0_1.index t 0 * 4096 + 1 * (j 0).val = (j 0).val; rw [hi.1]; omega
  | ⟨1, _⟩ => show win0_1.index t 1 * 128 + 1 * (j 1).val = (j 1).val; rw [hi.2]; omega

/-- A point's step over scratch holding the norms and the inputs. -/
theorem point_apply (c : Dev nD) (t : Fin cfg0.N) (ht : t.val < 4) (s0 : Vec Ideal S8x4096 .bf16) (s1 : Vec Ideal S4096x128 .bf16)
    (acc : Vec Ideal S1x1 .f32) (h0 : s0 = k0_pay2 (F := Ideal) (inp m c)) (h1 : s1 = k0_pay3 (F := Ideal) (inp m c)) :
    step (View.ld (iblk m c 1 t : Vec Ideal S4096x128 .f32) (rowsRect (grid0.coords t))) (iblk m c 0 t) s1 (View.ld s0 rowRect) acc (ix2 0 0)
      = acc (ix2 0 0) + blockSum (inp m c) (pos m c) ⟨t.val, ht⟩ := by
  subst h0 h1
  exact step_apply _ _ _ _ _ _ _ _ (fun r k => by rw [inp_block]; exact rows_apply _ _ _ _ _) (fun r k => pos_block m c t ht r k)
    (fun j k => copy_apply _ _ _) (fun j => (row_apply _ _).trans (norms_apply _ _))

/-- What the running state holds: the sum so far, the norms, the inputs. -/
structure Holds (c : Dev nD) (s : EReal) (st : Vec Ideal S1x1 .f32 × Vec Ideal S8x4096 .bf16 × Vec Ideal S4096x128 .bf16) : Prop where
  sum : st.1 (ix2 0 0) = s
  norms : st.2.1 = k0_pay2 (F := Ideal) (inp m c)
  copy : st.2.2 = k0_pay3 (F := Ideal) (inp m c)

theorem zero_apply : k0_pay1175 (F := Ideal) (ix2 0 0) = 0 := by
  pointwise [k0_pay1175]

/-- The first point. -/
theorem first_point (c : Dev nD) (h : 0 < cfg0.N) (acc : Vec Ideal S1x1 .f32 × Vec Ideal S8x4096 .bf16 × Vec Ideal S4096x128 .bf16) :
    Holds m c (blockSum (inp m c) (pos m c) 0) (stAt0 m c 0 h acc) := by
  have e := stAt0_A m c ⟨0, h⟩ acc rfl rfl (by dsimp only; omega)
  rw [out_A, scratch_A_0, scratch_A_1] at e
  have hs := point_apply m c ⟨0, h⟩ (show 0 < 4 by omega) _ _ (k0_pay1175 (F := Ideal)) (congrArg (k0_pay2 (F := Ideal)) (inp_block m c ⟨0, h⟩)) (congrArg (k0_pay3 (F := Ideal)) (inp_block m c ⟨0, h⟩))
  refine ⟨?_, ?_, ?_⟩
  · rw [show stAt0 m c 0 h acc = _ from e]
    exact hs.trans (by rw [zero_apply, zero_add]; rfl)
  · rw [show stAt0 m c 0 h acc = _ from e]
    exact congrArg (k0_pay2 (F := Ideal)) (inp_block m c ⟨0, h⟩)
  · rw [show stAt0 m c 0 h acc = _ from e]
    exact congrArg (k0_pay3 (F := Ideal)) (inp_block m c ⟨0, h⟩)

/-- A middle point. -/
theorem middle_point (c : Dev nD) (n : ℕ) (h : n < cfg0.N) (hn : n = 1 ∨ n = 2) (h4 : n < 4) (s : EReal)
    (acc : Vec Ideal S1x1 .f32 × Vec Ideal S8x4096 .bf16 × Vec Ideal S4096x128 .bf16) (hacc : Holds m c s acc) :
    Holds m c (s + blockSum (inp m c) (pos m c) ⟨n, h4⟩) (stAt0 m c n h acc) := by
  have e := stAt0_B m c ⟨n, h⟩ acc (by dsimp only; omega) (by dsimp only; omega) (by dsimp only; omega)
  rw [out_B] at e
  have hs := point_apply m c ⟨n, h⟩ h4 _ _ acc.1 hacc.norms hacc.copy
  refine ⟨?_, ?_, ?_⟩
  · rw [show stAt0 m c n h acc = _ from e]
    exact hs.trans (by rw [hacc.sum])
  · rw [show stAt0 m c n h acc = _ from e]
    exact hacc.norms
  · rw [show stAt0 m c n h acc = _ from e]
    exact hacc.copy

/-- The last point's block: the whole sum times 1/4096. -/
theorem last_point (c : Dev nD) (h : 3 < cfg0.N) (s : EReal)
    (acc : Vec Ideal S1x1 .f32 × Vec Ideal S8x4096 .bf16 × Vec Ideal S4096x128 .bf16) (hacc : Holds m c s acc) :
    (stAt0 m c 3 h acc).1 (ix2 0 0) = (s + blockSum (inp m c) (pos m c) 3) * share := by
  have e := stAt0_C m c ⟨3, h⟩ acc (by dsimp only; omega) (by dsimp only; omega) rfl
  rw [out_C] at e
  have hs := point_apply m c ⟨3, h⟩ (show 3 < 4 by omega) _ _ acc.1 hacc.norms hacc.copy
  rw [show stAt0 m c 3 h acc = _ from e]
  have e1 : ∀ v : Vec Ideal S1x1 .f32, k0_pay1 v (ix2 0 0) = v (ix2 0 0) * share := fun v => by pointwise [k0_pay1]
  refine (e1 _).trans ?_
  exact congrArg (· * share) (hs.trans (congrArg (· + blockSum (inp m c) (pos m c) 3) hacc.sum))

/-- The running state after the last point, its first component read: the kernel's result. -/
theorem fold_apply (c : Dev nD) (h : ∀ n, n < 4 → n < cfg0.N) :
    (stAt0 m c 3 (h 3 (by omega)) (stAt0 m c 2 (h 2 (by omega)) (stAt0 m c 1 (h 1 (by omega)) (stAt0 m c 0 (h 0 (by omega)) junk0)))).1 (ix2 0 0)
      = loss (inp m c) (pos m c) := by
  have h0 := first_point m c (h 0 (by omega)) junk0
  have h1 := middle_point m c 1 (h 1 (by omega)) (.inl rfl) (by omega) _ _ h0
  have h2 := middle_point m c 2 (h 2 (by omega)) (.inr rfl) (by omega) _ _ h1
  exact last_point m c (h 3 (by omega)) _ _ h2

/-- The kernel's result array. -/
theorem result_eq (c : Dev nD) (i : S1x1.Idx) : G2 m c i = loss (inp m c) (pos m c) := by
  have hi : i = ix2 0 0 := funext fun a => Fin.ext (by
    match a with
    | ⟨0, _⟩ => have : (i 0).val < 1 := (i 0).isLt; show (i 0).val = 0; omega
    | ⟨1, _⟩ => have : (i 1).val < 1 := (i 1).isLt; show (i 1).val = 0; omega)
  subst hi
  rw [G2_last]
  exact fold_apply m c fun n h => lt_of_lt_of_eq h N_0.symm

end Cert.KernelIdeal.Loss

end
-- ==== Proof.Order.lean ====
/- The stable order of a row of extended reals, smallest first, and the two-operand sort along the columns read by it.
   The reference and the precondition sort the same distances; both read them through `order`. -/
module

public import Idealize.ShloMosaic.Lib.Pointwise
public import Idealize.ShloMosaic.Lib.SortFacts
public import Idealize.ShloMosaic.PureOps.Ideal

@[expose] public section

noncomputable section

namespace Cert.Order

open Idealize.ShloMosaic

/-- The position that stands at place `k` when the row `d` is sorted, smallest first and ties in their old order. -/
def order {n : ℕ} (d : Fin n → EReal) : Fin n → Fin n :=
  sortedFrom fun k k' => decide (d k < d k')

variable {n m : ℕ} (d : Fin n → EReal)

/-- No position stands at two places. -/
theorem order_injective : Function.Injective (order d) := sortedFrom_injective _

/-- Every position stands at some place. -/
theorem order_surjective : Function.Surjective (order d) := sortedFrom_surjective _

/-- Later places hold no smaller values. -/
theorem order_le {i j : Fin n} (hij : i < j) : d (order d i) ≤ d (order d j) := by
  have h := sortedFrom_noInversion (fun k k' => decide (d k < d k')) (fun k k' => decide (d k < d k'))
    (fun a b hab => by simpa using (of_decide_eq_true hab).le) (fun a b hab => hab)
    (fun a b c hab hbc => by
      simp only [decide_eq_false_iff_not, not_lt] at hab hbc ⊢
      exact hbc.trans hab) i j hij
  simpa [order] using h

/-- A comparator of pairs that asks whether the first key is the smaller. -/
def ByKey (cmp : EReal × BitVec 32 → EReal × BitVec 32 → BitVec 1) : Prop :=
  ∀ l r, cmp l r = BitVec.ofBool (decide (l.1 < r.1))

/-- An index of a matrix with its column replaced. -/
theorem along_col (a : Fin m) (b k : Fin n) :
    (ix2 a b).along (⟨1, Nat.one_lt_two⟩ : Fin (⟨2, ![m, n]⟩ : Shape).rank) k = ix2 a k := by
  funext c
  match c with
  | ⟨0, _⟩ => rfl
  | ⟨1, _⟩ => rfl

variable (cmp : EReal × BitVec 32 → EReal × BitVec 32 → BitVec 1) (x : (⟨2, ![m, n]⟩ : Shape).Idx → EReal)
  (y : (⟨2, ![m, n]⟩ : Shape).Idx → BitVec 32) (a : Fin m) (b : Fin n)

/-- Sorting keys with companions along the columns permutes both rows alike, by the row's stable order. -/
theorem sort2_apply (h : ByKey cmp) :
    (Host.sort2 ⟨2, ![m, n]⟩ 1 cmp x y).1 (ix2 a b) = x (ix2 a (order (fun k => x (ix2 a k)) b))
    ∧ (Host.sort2 ⟨2, ![m, n]⟩ 1 cmp x y).2 (ix2 a b) = y (ix2 a (order (fun k => x (ix2 a k)) b)) := by
  have hb : ∀ l r, (cmp l r == 1#1) = decide (l.1 < r.1) := fun l r => by
    rw [h]; by_cases hlr : l.1 < r.1 <;> simp [hlr]
  unfold Host.sort2
  rw [dif_pos (show 1 < (⟨2, ![m, n]⟩ : Shape).rank from Nat.one_lt_two)]
  simp only [hb]
  have e : ∀ k, (ix2 a b).along (⟨1, Nat.one_lt_two⟩ : Fin (⟨2, ![m, n]⟩ : Shape).rank) k = ix2 a k := along_col a b
  constructor
  · refine (congrArg x (e _)).trans (congrArg (fun k => x (ix2 a k)) ?_)
    exact congrArg (fun B => sortedFrom B b) (funext fun k => funext fun k' => by rw [e, e]; rfl)
  · refine (congrArg y (e _)).trans (congrArg (fun k => y (ix2 a k)) ?_)
    exact congrArg (fun B => sortedFrom B b) (funext fun k => funext fun k' => by rw [e, e]; rfl)

end Cert.Order

end
-- ==== Proof.RefDist.lean ====
/- The reference's distances and the order of a row's columns by them, read at an index over the extended reals. -/
module

public import proofs.«01_k».proof.Proof.Gen.ReferenceIdeal.Read
public import proofs.«01_k».proof.Proof.Order
public import Idealize.ShloMosaic.Lib.Pointwise
public import Idealize.ShloMosaic.Lib.WordCmp

@[expose] public section

set_option maxRecDepth 65536

noncomputable section

namespace Cert.ReferenceIdeal.Loss

open Idealize.ShloMosaic Idealize.ShloMosaic.TcCoe Idealize.ShloMosaic.Tactic Idealize.SL.Sem
open Cert.ReferenceIdeal Cert.ReferenceIdeal.Gen Cert.ReferenceIdeal.Read

/-- 4096 rows of 128 extended reals. -/
abbrev Rows : Type := S4096x128.Idx → EReal

/-- The factor of the inner products. -/
abbrev two : EReal := Ideal.ofBits .f32 0x40000000#32
/-- The least squared distance, 1e-12 to the nearest f32. -/
abbrev floor : EReal := Ideal.ofBits .f32 0x2B8CBCCC#32

/-- The squared norm of row `n`. -/
def norm2 (x : Rows) (n : Fin 4096) : EReal := ∑ k : Fin 128, x (ix2 n k) * x (ix2 n k)
/-- The inner product of rows `n` and `j`. -/
def inner (x : Rows) (n j : Fin 4096) : EReal := ∑ k : Fin 128, x (ix2 n k) * x (ix2 j k)
/-- The distance of rows `n` and `j`: the root of the squared distance, no less than the floor's. -/
def dist (x : Rows) (n j : Fin 4096) : EReal :=
  Ideal.sqrt (max floor (norm2 x n + norm2 x j - two * inner x n j))
/-- The row that stands at place `r` of the rows ordered by their distance from row `n`. -/
def nearest (x : Rows) (n r : Fin 4096) : Fin 4096 := Order.order (fun j => dist x n j) r

/-- The keys pass through the comparator's canonical form unchanged. -/
theorem canonical (a b : EReal) :
    Scalar.select (Ideal.cmp .une a a) b (Scalar.select (Ideal.cmp .oeq a 0) 0 a) = a := by
  by_cases h : a = 0 <;> simp [Ideal.cmp, Scalar.select, h]

/-- The reference's comparator asks whether the first key is the smaller. -/
theorem byKey : Order.ByKey (comparator_f32_i32_d1 (F := Ideal)) := fun l r => by
  have hz : Ideal.ofBits .f32 0x00000000#32 = 0 := by simp [Ideal.ofBits, Ideal.ieee]
  have e : comparator_f32_i32_d1 (F := Ideal) l r = Ideal.cmpTotal .lt
      (Scalar.select (Ideal.cmp .une l.1 l.1) (Ideal.ofBits .f32 0x7FC00000#32)
        (Scalar.select (Ideal.cmp .oeq l.1 (Ideal.ofBits .f32 0x00000000#32)) (Ideal.ofBits .f32 0x00000000#32) l.1))
      (Scalar.select (Ideal.cmp .une r.1 r.1) (Ideal.ofBits .f32 0x7FC00000#32)
        (Scalar.select (Ideal.cmp .oeq r.1 (Ideal.ofBits .f32 0x00000000#32)) (Ideal.ofBits .f32 0x00000000#32) r.1)) := rfl
  rw [e, hz, canonical, canonical]
  rfl

variable (x : Rows)

/-- The distance matrix, at an index. -/
theorem dist_apply (n j : Fin 4096) : val_main_v13 (F := Ideal) x (ix2 n j) = dist x n j := by
  pointwise [val_main_v13, val_main_v12, val_main_v11, val_main_v10, val_main_v9, val_main_v8, val_main_v7,
    val_main_v6, val_main_v5, val_main_v4, val_main_v3, val_main_v2, val_main_v1, val_main_v0,
    val_main_call0_v1, val_main_call0_v0, val_main_cst_0, val_main_cst_1, val_main_cst]
  rfl

/-- The sorted column numbers: place `r` of row `n` holds the number of the `r`-th nearest row. -/
theorem sorted_apply (n r : Fin 4096) :
    val_main_v14 (F := Ideal) x (ix2 n r) = BitVec.ofNat 32 (nearest x n r).val := by
  refine ((Order.sort2_apply _ (val_main_v13 (F := Ideal) x) (val_main_call1_v0 (F := Ideal)) n r byKey).2).trans ?_
  simp only [dist_apply]
  rfl

/-- The hard negative's row number. -/
theorem negIdx_apply (n : Fin 4096) :
    val_main_v16 (F := Ideal) x (ix1 n) = BitVec.ofNat 32 (nearest x n 2).val := by
  have e : val_main_v16 (F := Ideal) x (ix1 n) = val_main_v14 (F := Ideal) x (ix2 n 2) := by
    pointwise [val_main_v16, val_main_v15]
  rw [e, sorted_apply]

end Cert.ReferenceIdeal.Loss

end
-- ==== Proof.RowReal.lean ====
/- A finite input as an array of reals: the squared distances of its rows, and both programs' distances by them. -/
module

public import proofs.«01_k».proof.Proof.Literals
public import proofs.«01_k».proof.Proof.KernelValue
public import proofs.«01_k».proof.Proof.RefDist

@[expose] public section

set_option maxRecDepth 65536

noncomputable section

namespace Cert.RowReal

open Idealize.ShloMosaic
open Cert.Literals

/-- 4096 rows of 128 extended reals. -/
abbrev Rows : Type := Cert.ReferenceIdeal.Loss.Rows

/-- Row `n`'s entry `k` as a real. -/
def entry (x : Rows) (n : Fin 4096) (k : Fin 128) : ℝ := (x (ix2 n k)).toReal
/-- The squared norm of row `n`. -/
def norm (x : Rows) (n : Fin 4096) : ℝ := ∑ k, entry x n k * entry x n k
/-- The inner product of rows `n` and `j`. -/
def inner (x : Rows) (n j : Fin 4096) : ℝ := ∑ k, entry x n k * entry x j k
/-- The squared distance of rows `n` and `j`. -/
def sq (x : Rows) (n j : Fin 4096) : ℝ := ∑ k, (entry x n k - entry x j k) * (entry x n k - entry x j k)

variable (x : Rows)

/-- The squared distance by norms and the inner product. -/
theorem sq_eq (n j : Fin 4096) : sq x n j = norm x n + norm x j - 2 * inner x n j := by
  unfold sq norm inner
  rw [Finset.mul_sum, ← Finset.sum_add_distrib, ← Finset.sum_sub_distrib]
  exact Finset.sum_congr rfl fun k _ => by ring

theorem sq_nonneg (n j : Fin 4096) : 0 ≤ sq x n j := Finset.sum_nonneg fun k _ => mul_self_nonneg _

/-- A row is at no distance from itself. -/
theorem sq_self (n : Fin 4096) : sq x n n = 0 := by simp [sq]

/-- Every entry of the array is a real. -/
def Finite : Prop := ∀ n k, x (ix2 n k) ≠ ⊤ ∧ x (ix2 n k) ≠ ⊥

variable {x} (hx : Finite x)

include hx

theorem entry_coe (n : Fin 4096) (k : Fin 128) : x (ix2 n k) = (entry x n k : EReal) :=
  (EReal.coe_toReal (hx n k).1 (hx n k).2).symm

theorem norm_coe (n : Fin 4096) : ∑ k : Fin 128, x (ix2 n k) * x (ix2 n k) = (norm x n : EReal) := by
  rw [norm, coe_sum]
  exact Finset.sum_congr rfl fun k _ => by rw [entry_coe hx, EReal.coe_mul]

theorem inner_coe (n j : Fin 4096) : ∑ k : Fin 128, x (ix2 n k) * x (ix2 j k) = (inner x n j : EReal) := by
  rw [inner, coe_sum]
  exact Finset.sum_congr rfl fun k _ => by rw [entry_coe hx, entry_coe hx, EReal.coe_mul]

theorem sq_coe (n j : Fin 4096) :
    ∑ k : Fin 128, (x (ix2 n k) - x (ix2 j k)) * (x (ix2 n k) - x (ix2 j k)) = (sq x n j : EReal) := by
  rw [sq, coe_sum]
  exact Finset.sum_congr rfl fun k _ => by rw [entry_coe hx, entry_coe hx, EReal.coe_mul, EReal.coe_sub]

/-- The reference's distance. -/
theorem dist_coe (n j : Fin 4096) :
    Cert.ReferenceIdeal.Loss.dist x n j = (Real.sqrt (max least (sq x n j)) : EReal) := by
  unfold Cert.ReferenceIdeal.Loss.dist Cert.ReferenceIdeal.Loss.norm2 Cert.ReferenceIdeal.Loss.inner
  rw [norm_coe hx, norm_coe hx, inner_coe hx,
    show Cert.ReferenceIdeal.Loss.floor = _ from floor_eq, show Cert.ReferenceIdeal.Loss.two = _ from two_eq, ← EReal.coe_mul, ← EReal.coe_add, ← EReal.coe_sub,
    ← coe_max, ← sq_eq, sqrt_coe (least_pos.le.trans (le_max_left _ _))]

/-- The kernel's relative squared distance: row `n`'s own squared norm is left out. -/
theorem rdist_coe (n j : Fin 4096) :
    Cert.KernelIdeal.Loss.rdist x n j.val = ((sq x n j - norm x n : ℝ) : EReal) := by
  have hm : ∑ k : Fin 128, Cert.KernelIdeal.Loss.minusTwo * x (ix2 n k) * x (ix2 j k) = ((-2 * inner x n j : ℝ) : EReal) := by
    rw [inner, Finset.mul_sum, coe_sum]
    exact Finset.sum_congr rfl fun k _ => by
      rw [entry_coe hx, entry_coe hx, show Cert.KernelIdeal.Loss.minusTwo = _ from minusTwo_eq, ← EReal.coe_mul, ← EReal.coe_mul, mul_assoc]
  unfold Cert.KernelIdeal.Loss.rdist Cert.KernelIdeal.Loss.norm2
  rw [dif_pos j.isLt]
  show (∑ k : Fin 128, x (ix2 j k) * x (ix2 j k)) + ∑ k : Fin 128, Cert.KernelIdeal.Loss.minusTwo * x (ix2 n k) * x (ix2 j k) = _
  rw [norm_coe hx, hm, ← EReal.coe_add, sq_eq]
  congr 1
  ring

end Cert.RowReal

end
-- ==== Proof.RefTake.lean ====
/- The reference's take: the hard negative of row `n` is the row whose number stands third in the row's order. -/
module

public import proofs.«01_k».proof.Proof.RefDist

@[expose] public section

set_option maxRecDepth 65536

noncomputable section

namespace Cert.ReferenceIdeal.Loss

open Idealize.ShloMosaic Idealize.ShloMosaic.TcCoe Idealize.ShloMosaic.Tactic Idealize.SL.Sem
open Cert.ReferenceIdeal Cert.ReferenceIdeal.Gen Cert.ReferenceIdeal.Read

/-- A row number as a 32-bit word reads back as itself, signed. -/
theorem toInt_row (j : Fin 4096) : (BitVec.ofNat 32 j.val).toInt = (j.val : ℤ) := by
  have h : (BitVec.ofNat 32 j.val).toNat = j.val := by
    rw [BitVec.toNat_ofNat, Nat.mod_eq_of_lt (by omega)]
  rw [BitVec.toInt_eq_toNat_of_lt (by rw [h]; omega), h]

/-- The dimension numbers of the take of whole rows. -/
abbrev takeDims : GatherDims S4096x128 S4096x1 S4096x128 := gather_S4096x128_S4096x1_S4096x128_1_0_n_n_0_1_1128

/-- The row axis takes its coordinate from the start index, clamped into the operand. -/
theorem take_row (idx : IVec S4096x1 32) (n : Fin 4096) (k : Fin 128) :
    takeDims.start (ix2 n k) idx (0 : Fin 2) + takeDims.batchCoord (ix2 n k) (0 : Fin 2)
      + takeDims.offCoord (ix2 n k) (0 : Fin 2) = min (idx (ix2 n 0)).toInt.toNat 4095 := by
  have hm : (0 : Fin 2) ∈ takeDims.startIndexMap := List.mem_singleton.mpr rfl
  rw [GatherDims.batchCoord_eq_zero _ _ _ List.not_mem_nil, Nat.add_zero,
    GatherDims.offCoord_eq_zero _ _ _
      (fun h => ((GatherDims.mem_sKept _ _).mp h).1 (List.mem_singleton.mpr rfl)), Nat.add_zero]
  unfold GatherDims.start
  rw [dif_pos hm]
  have hs : takeDims.siIdx (ix2 n k) ⟨List.idxOf (0 : Fin 2) takeDims.startIndexMap,
      List.idxOf_lt_length_iff.2 hm⟩ = ix2 n 0 := by
    funext b
    match b with
    | ⟨0, _⟩ => rfl
    | ⟨1, _⟩ => rfl
  rw [hs]
  rfl

/-- The column axis takes its coordinate from the result's column. -/
theorem take_col (idx : IVec S4096x1 32) (n : Fin 4096) (k : Fin 128) :
    takeDims.start (ix2 n k) idx (1 : Fin 2) + takeDims.batchCoord (ix2 n k) (1 : Fin 2)
      + takeDims.offCoord (ix2 n k) (1 : Fin 2) = k.val := by
  have hm : (1 : Fin 2) ∉ takeDims.startIndexMap := fun h => absurd (List.mem_singleton.mp h) (by decide)
  have hk : (1 : Fin 2) ∈ takeDims.sKept :=
    (GatherDims.mem_sKept _ _).mpr ⟨fun h => absurd (List.mem_singleton.mp h) (by decide), List.not_mem_nil⟩
  rw [GatherDims.batchCoord_eq_zero _ _ _ List.not_mem_nil, Nat.add_zero]
  unfold GatherDims.start GatherDims.offCoord
  rw [dif_neg hm, dif_pos hk, Nat.zero_add]
  rfl

/-- The gather of whole rows, at an index: the row the start index names, clamped into the operand. -/
theorem gatherRow_apply (x : S4096x128.Idx → EReal) (idx : IVec S4096x1 32) (n : Fin 4096) (k : Fin 128) :
    Host.gather takeDims x idx (ix2 n k) = x (ix2 ⟨min (idx (ix2 n 0)).toInt.toNat 4095, by omega⟩ k) := by
  unfold Host.gather
  refine congrArg x (funext fun a => Fin.ext ?_)
  match a with
  | ⟨0, _⟩ => exact take_row idx n k
  | ⟨1, _⟩ => exact take_col idx n k

/-- No row number is negative. -/
theorem row_slt (j : Fin 4096) : ¬ IntOp.cmpi .slt (BitVec.ofNat 32 j.val) 0#32 = 1 := fun h => by
  rw [WordCmp.cmpi_slt_eq, toInt_row, show (0#32 : BitVec 32).toInt = 0 from rfl, decide_eq_false (by omega)] at h
  exact absurd h (by decide)
/-- Every row number is at least 0. -/
theorem row_sge (j : Fin 4096) : IntOp.cmpi .sge (BitVec.ofNat 32 j.val) 0#32 = 1#1 := by
  rw [WordCmp.cmpi_sge_eq, toInt_row, show (0#32 : BitVec 32).toInt = 0 from rfl, decide_eq_true (by omega)]
  rfl
/-- Every row number is at most 4095. -/
theorem row_sle (j : Fin 4096) : IntOp.cmpi .sle (BitVec.ofNat 32 j.val) 4095#32 = 1#1 := by
  rw [WordCmp.cmpi_sle_eq, toInt_row, show (4095#32 : BitVec 32).toInt = 4095 from rfl, decide_eq_true (by omega)]
  rfl

variable (x : Rows)

/-- The row number is never negative, so the take does not wrap it. -/
theorem start_apply (n : Fin 4096) :
    val_main_call2_v5 (F := Ideal) x (ix2 n 0) = BitVec.ofNat 32 (nearest x n 2).val := by
  have e : val_main_call2_v5 (F := Ideal) x (ix2 n 0)
      = Scalar.select (IntOp.cmpi .slt (val_main_v16 (F := Ideal) x (ix1 n)) 0#32)
        (IntOp.addi (val_main_v16 (F := Ideal) x (ix1 n)) 4096#32) (val_main_v16 (F := Ideal) x (ix1 n)) := by
    pointwise [val_main_call2_v5, val_main_call2_v4, val_main_call2_v3, val_main_call2_v2, val_main_call2_v1,
      val_main_call2_v0, val_main_call2_c, val_main_call2_c_0]
  rw [e, negIdx_apply, Scalar.select, if_neg (row_slt _)]

/-- Every row number is within the operand, so the take masks nothing. -/
theorem inBounds_apply (n : Fin 4096) : val_main_call2_v12 (F := Ideal) x (ix1 n) = 1#1 := by
  have e : val_main_call2_v12 (F := Ideal) x (ix1 n)
      = Finset.fold IntOp.andi 1#1 (fun z : Fin 1 =>
        IntOp.andi (IntOp.cmpi .sge (val_main_call2_v5 (F := Ideal) x (ix2 n z)) 0#32)
          (IntOp.cmpi .sle (val_main_call2_v5 (F := Ideal) x (ix2 n z)) 4095#32)) Finset.univ := by
    pointwise [val_main_call2_v12, val_main_call2_v11, val_main_call2_v10, val_main_call2_v9, val_main_call2_v8,
      val_main_call2_v7, val_main_call2_v6, val_main_call2_c_1, val_main_call2_c_2, val_main_call2_c_3]
  rw [e, Finset.univ_unique, Finset.fold_singleton, show (default : Fin 1) = 0 from rfl, start_apply, row_sge, row_sle]
  rfl

/-- The taken row is the hard negative. -/
theorem negative_apply (n : Fin 4096) (k : Fin 128) :
    val_main_v17 (F := Ideal) x (ix2 n k) = x (ix2 (nearest x n 2) k) := by
  have e : val_main_v17 (F := Ideal) x (ix2 n k)
      = Scalar.select (val_main_call2_v12 (F := Ideal) x (ix1 n)) (val_main_call2_v13 (F := Ideal) x (ix2 n k))
        (val_main_call2_v15 (F := Ideal) (ix2 n k)) := by
    pointwise [val_main_v17, val_main_call2_v14]
  rw [e, inBounds_apply, Scalar.select, if_pos (show (1#1 : BitVec 1) = 1 from rfl)]
  refine (gatherRow_apply x _ n k).trans (congrArg (fun j => x (ix2 j k)) (Fin.ext ?_))
  show min (val_main_call2_v5 (F := Ideal) x (ix2 n 0)).toInt.toNat 4095 = _
  rw [start_apply, toInt_row]
  omega

end Cert.ReferenceIdeal.Loss

end
-- ==== Proof.RefValue.lean ====
/- What the reference computes, over the extended reals: the mean over the rows of the hinge of the distance to the
   positive and the distance to the third nearest row. -/
module

public import proofs.«01_k».proof.Proof.RefTake

@[expose] public section

set_option maxRecDepth 65536

noncomputable section

namespace Cert.ReferenceIdeal.Loss

open Idealize.ShloMosaic Idealize.ShloMosaic.TcCoe Idealize.ShloMosaic.Tactic Idealize.SL.Sem
open Cert.ReferenceIdeal Cert.ReferenceIdeal.Gen Cert.ReferenceIdeal.Read

/-- The shift of the positive's difference, 1e-6 to the nearest f32. -/
abbrev shift : EReal := Ideal.ofBits .f32 0x358637BD#32
/-- The margin, 0.3 to the nearest f32. -/
abbrev margin : EReal := Ideal.ofBits .f32 0x3E99999A#32
/-- The number of rows. -/
abbrev count : EReal := Ideal.ofBits .f32 0x45800000#32

/-- The distance of row `n` to its positive. -/
def dPos (x p : Rows) (n : Fin 4096) : EReal :=
  Ideal.sqrt (∑ k : Fin 128, (x (ix2 n k) - p (ix2 n k) + shift) * (x (ix2 n k) - p (ix2 n k) + shift))
/-- The distance of row `n` to its hard negative. -/
def dNeg (x : Rows) (n : Fin 4096) : EReal :=
  Ideal.sqrt (∑ k : Fin 128, (x (ix2 n k) - x (ix2 (nearest x n 2) k)) * (x (ix2 n k) - x (ix2 (nearest x n 2) k)))
/-- Row `n`'s share of the loss. -/
def hinge (x p : Rows) (n : Fin 4096) : EReal := max (dPos x p n - dNeg x n + margin) 0
/-- The loss. -/
def loss (x p : Rows) : EReal := Ideal.div (∑ n : Fin 4096, hinge x p n) count

/-- The reference's result, at its one index. -/
theorem result_apply (x p : Rows) (i : S1x1.Idx) : val_main_v35 (F := Ideal) x p i = loss x p := by
  have hz : Ideal.ofBits .f32 0x00000000#32 = 0 := by simp [Ideal.ofBits, Ideal.ieee]
  pointwise [val_main_v35, val_main_v34, val_main_v33, val_main_v32, val_main_v31, val_main_v30, val_main_v29,
    val_main_v28, val_main_v27, val_main_v26, val_main_v25, val_main_v24, val_main_v23, val_main_v22, val_main_v21,
    val_main_v20, val_main_v19, val_main_v18, val_main_cst_2, val_main_cst_3, val_main_cst_4, val_main_cst_5,
    val_main_cst_6, val_main_cst_7, val_main_cst_8]
  simp only [negative_apply, hz, zero_add]
  rfl

end Cert.ReferenceIdeal.Loss

end
-- ==== Proof.Rank.lean ====
/- The two selections agree: where the precondition holds, the kernel's second least relative distance is that of the
   row the reference takes, so both distances to the hard negative are the same. -/
module

public import proofs.«01_k».proof.Proof.RowReal
public import proofs.«01_k».proof.Proof.Generic
public import proofs.«01_k».proof.Proof.RefValue

@[expose] public section

set_option maxRecDepth 65536

noncomputable section

namespace Cert.Rank

open Idealize.ShloMosaic
open Cert.Literals Cert.RowReal
open Cert.ReferenceIdeal.Loss (nearest)
open Cert.Pre_generic.Loss (Generic)

variable {x : Rows} (h : Generic x) (n : Fin 4096)

/-- The squared distance as the distance compares it: no less than the least. -/
def key (x : Rows) (n j : Fin 4096) : ℝ := max least (sq x n j)

theorem key_self : key x n n = least := by rw [key, sq_self, max_eq_left least_pos.le]

include h

theorem finite : Finite x := h.finite

/-- Distances compare as their keys do. -/
theorem dist_le_iff (i j : Fin 4096) :
    Cert.ReferenceIdeal.Loss.dist x n i ≤ Cert.ReferenceIdeal.Loss.dist x n j ↔ key x n i ≤ key x n j := by
  rw [dist_coe (finite h), dist_coe (finite h), EReal.coe_le_coe_iff]
  exact Real.sqrt_le_sqrt_iff (least_pos.le.trans (le_max_left _ _))

/-- Along the order the keys do not fall. -/
theorem key_mono {r s : Fin 4096} (hrs : r < s) : key x n (nearest x n r) ≤ key x n (nearest x n s) :=
  (dist_le_iff h n _ _).mp (Order.order_le (fun j => Cert.ReferenceIdeal.Loss.dist x n j) hrs)

/-- From the second place to the third they rise. -/
theorem key_split : key x n (nearest x n 1) < key x n (nearest x n 2) :=
  not_le.mp fun hle => absurd ((dist_le_iff h n _ _).mpr hle) (not_le.mpr (h.split n))

/-- The third nearest row lies further away than the least distance. -/
theorem least_lt : least < sq x n (nearest x n 2) := by
  have h1 : least < max least (sq x n (nearest x n 2)) := lt_of_le_of_lt (le_max_left _ _) (key_split h n)
  rcases lt_max_iff.mp h1 with h2 | h2
  · exact absurd h2 (lt_irrefl _)
  · exact h2

/-- From the third place on the squared distances are at least the third's. -/
theorem sq_from {r : Fin 4096} (hr : 2 ≤ r) : sq x n (nearest x n 2) ≤ sq x n (nearest x n r) := by
  rcases hr.lt_or_eq with hr | rfl
  · rcases le_max_iff.mp ((le_max_right least _).trans (key_mono h n hr)) with h1 | h1
    · exact absurd (least_lt h n) (not_lt.mpr h1)
    · exact h1
  · exact le_rfl

/-- Before the third place they are smaller. -/
theorem sq_before {r : Fin 4096} (hr : r < 2) : sq x n (nearest x n r) < sq x n (nearest x n 2) := by
  have h1 : key x n (nearest x n r) ≤ key x n (nearest x n 1) := by
    rcases (show r ≤ 1 from Fin.le_def.mpr (by have := Fin.lt_def.mp hr; exact Nat.lt_succ_iff.mp this)).lt_or_eq with h1 | rfl
    · exact key_mono h n h1
    · exact le_rfl
  have h2 : sq x n (nearest x n r) < max least (sq x n (nearest x n 2)) :=
    lt_of_le_of_lt (le_max_right _ _) (lt_of_le_of_lt h1 (key_split h n))
  rwa [max_eq_right (least_lt h n).le] at h2

omit h in
theorem nearest_inj {r s : Fin 4096} (e : nearest x n r = nearest x n s) : r = s :=
  Order.order_injective _ e

omit h in
theorem nearest_surj (j : Fin 4096) : ∃ r, nearest x n r = j := Order.order_surjective _ j

/-- The row itself stands at one of the first two places; the other of them holds the nearest other row, and the two
    are not both, with the third, in the row's lane. -/
theorem places : ∃ j1 : Fin 4096, j1 ≠ n ∧ n ≠ nearest x n 2 ∧ j1 ≠ nearest x n 2
    ∧ sq x n j1 < sq x n (nearest x n 2)
    ∧ (∀ j, j ≠ n → j ≠ j1 → sq x n (nearest x n 2) ≤ sq x n j)
    ∧ ¬(j1.val % 128 = n.val % 128 ∧ (nearest x n 2).val % 128 = n.val % 128) := by
  obtain ⟨r, hr⟩ := nearest_surj (x := x) n n
  have hr2 : r < 2 := by
    by_contra hn
    have h1 := sq_from h n (not_lt.mp hn)
    rw [hr, sq_self] at h1
    exact absurd (least_lt h n) (not_lt.mpr (h1.trans least_pos.le))
  have hn2 : n ≠ nearest x n 2 := fun e => by
    have := nearest_inj n (hr.trans e)
    rw [this] at hr2
    exact lt_irrefl _ hr2
  have other : ∀ s : Fin 4096, s < 2 → s ≠ r → (∀ t : Fin 4096, t < 2 → t = r ∨ t = s) →
      nearest x n s ≠ n ∧ n ≠ nearest x n 2 ∧ nearest x n s ≠ nearest x n 2
      ∧ sq x n (nearest x n s) < sq x n (nearest x n 2)
      ∧ (∀ j, j ≠ n → j ≠ nearest x n s → sq x n (nearest x n 2) ≤ sq x n j) := fun s hs hsr hall => by
    refine ⟨fun e => hsr (nearest_inj n (e.trans hr.symm)), hn2, fun e => ?_, sq_before h n hs, fun j hj hjs => ?_⟩
    · rw [nearest_inj n e] at hs
      exact lt_irrefl _ hs
    · obtain ⟨t, rfl⟩ := nearest_surj (x := x) n j
      refine sq_from h n (not_lt.mp fun ht => ?_)
      rcases hall t ht with rfl | rfl
      · exact hj hr
      · exact hjs rfl
  have two_cases : ∀ t : Fin 4096, t < 2 → t = 0 ∨ t = 1 := fun t ht => by
    have : t.val < 2 := Fin.lt_def.mp ht
    rcases (show t.val = 0 ∨ t.val = 1 by omega) with e | e
    · exact .inl (Fin.ext e)
    · exact .inr (Fin.ext e)
  rcases two_cases r hr2 with rfl | rfl
  · obtain ⟨a, b, c, d, e⟩ := other 1 (by decide) (by decide) two_cases
    exact ⟨_, a, b, c, d, e, h.lanes n⟩
  · obtain ⟨a, b, c, d, e⟩ := other 0 (by decide) (by decide) (fun t ht => (two_cases t ht).symm)
    refine ⟨_, a, b, c, d, e, fun hl => h.lanes n ⟨?_, hl.2⟩⟩
    rw [hr]

/-- The row's relative distances, ranked. -/
theorem ranked : ∃ j1 : ℕ, Select.Ranked (Cert.KernelIdeal.Loss.rdist x n) n.val j1 (nearest x n 2).val := by
  obtain ⟨j1, a, b, c, d, e, f⟩ := places h n
  have le_of : ∀ i j : Fin 4096, sq x n i ≤ sq x n j →
      Cert.KernelIdeal.Loss.rdist x n i.val ≤ Cert.KernelIdeal.Loss.rdist x n j.val := fun i j hij => by
    rw [rdist_coe (finite h), rdist_coe (finite h), EReal.coe_le_coe_iff]
    linarith
  have own : ∀ j : Fin 4096, Cert.KernelIdeal.Loss.rdist x n n.val ≤ Cert.KernelIdeal.Loss.rdist x n j.val :=
    fun j => le_of n j (by rw [sq_self]; exact sq_nonneg x n j)
  refine ⟨j1.val, n.isLt, j1.isLt, (nearest x n 2).isLt, fun e' => a (Fin.ext e'), fun e' => b (Fin.ext e').symm,
    fun e' => c (Fin.ext e').symm, own j1, own _, ?_, fun j hj h1 h2 => ?_, f⟩
  · rw [rdist_coe (finite h), rdist_coe (finite h), EReal.coe_lt_coe_iff]
    linarith
  · exact le_of _ ⟨j, hj⟩ (e ⟨j, hj⟩ (fun e' => h1 (congrArg Fin.val e')) (fun e' => h2 (congrArg Fin.val e')))

/-- The kernel's distance to the hard negative is the reference's. -/
theorem dNeg_eq : Cert.KernelIdeal.Loss.dNeg x n = Cert.ReferenceIdeal.Loss.dNeg x n := by
  obtain ⟨j1, hr⟩ := ranked h n
  unfold Cert.KernelIdeal.Loss.dNeg Cert.ReferenceIdeal.Loss.dNeg Cert.KernelIdeal.Loss.norm2
  rw [Select.next_cand hr, rdist_coe (finite h), norm_coe (finite h), sq_coe (finite h),
    show Cert.KernelIdeal.Loss.floor = _ from floor_eq, ← EReal.coe_add,
    sub_add_cancel, ← coe_max, max_eq_right (least_lt h n).le]

end Cert.Rank

end
-- ==== Proof.LossEq.lean ====
/- Where the precondition holds the kernel's loss is the reference's: row by row the same hinge, and the four blocks'
   sums times 1/4096 are the rows' sum over 4096. -/
module

public import proofs.«01_k».proof.Proof.Rank

@[expose] public section

set_option maxRecDepth 65536

noncomputable section

namespace Cert.Rank

open Idealize.ShloMosaic
open Cert.Literals Cert.RowReal
open Cert.Pre_generic.Loss (Generic)

/-- Dividing by the number of rows is multiplying by a row's share. -/
theorem div_count (s : EReal) : Ideal.div s Cert.ReferenceIdeal.Loss.count = s * Cert.KernelIdeal.Loss.share := by
  rw [show Cert.ReferenceIdeal.Loss.count = _ from count_eq, show Cert.KernelIdeal.Loss.share = _ from share_eq,
    Ideal.div_coe (by norm_num)]

/-- A sum over the rows, block by block. -/
theorem sum_blocks (f : Fin 4096 → EReal) :
    ∑ n, f n = (∑ r : Fin 1024, f (Cert.KernelIdeal.Loss.rowOf 0 r)) + (∑ r : Fin 1024, f (Cert.KernelIdeal.Loss.rowOf 1 r))
      + (∑ r : Fin 1024, f (Cert.KernelIdeal.Loss.rowOf 2 r)) + (∑ r : Fin 1024, f (Cert.KernelIdeal.Loss.rowOf 3 r)) := by
  have e : ∑ n, f n = ∑ q : Fin 4 × Fin 1024, f (Cert.KernelIdeal.Loss.rowOf q.1 q.2) :=
    (Fintype.sum_equiv (finProdFinEquiv (m := 4) (n := 1024)) _ _ fun q => congrArg f (Fin.ext (Nat.add_comm _ _))).symm
  rw [e, Fintype.sum_prod_type, Fin.sum_univ_four]

variable {x : Rows} (h : Generic x) (p : Rows)

include h

/-- The two losses are equal. -/
theorem loss_eq : Cert.KernelIdeal.Loss.loss x p = Cert.ReferenceIdeal.Loss.loss x p := by
  have hh : ∀ n, Cert.ReferenceIdeal.Loss.hinge x p n = Cert.KernelIdeal.Loss.hinge x p n := fun n => by
    unfold Cert.ReferenceIdeal.Loss.hinge Cert.KernelIdeal.Loss.hinge
    rw [dNeg_eq h]
    rfl
  unfold Cert.ReferenceIdeal.Loss.loss Cert.KernelIdeal.Loss.loss
  rw [div_count, sum_blocks]
  simp only [hh]
  rfl

end Cert.Rank

end
-- ==== Proof.Algebraic.lean ====
/- The value claim: where the precondition holds, the kernel's result array ends at the reference's. -/
module

public import proofs.«01_k».proof.Defs
public import proofs.«01_k».proof.Proof.LossEq
public import proofs.«01_k».proof.Proof.Gen.ReferenceIdeal.Run

@[expose] public section

noncomputable section

namespace Cert.Proof.Algebraic

open Idealize.ShloMosaic Idealize.ShloMosaic.TcCoe Idealize.SL.Sem

/-- On arguments that agree, of which the precondition holds, both programs end with the same result. -/
theorem algebraic : Cert.algebraic_KernelIdeal_ReferenceIdeal_pre_generic := by
  intro m ρ m' ρ' hpre hagree
  refine ⟨fun c => Cert.KernelIdeal.Value.G2 m c, Cert.KernelIdeal.Value.run (F := Ideal) m ρ, ?_⟩
  refine (θ_run Cert.ReferenceIdeal.defs _ _).mono (fun r h c => ⟨(h c).1.trans ?_, (h c).2⟩)
    (Cert.ReferenceIdeal.Value.run (F := Ideal) m' ρ')
  refine (Cert.ReferenceIdeal.Read.val_main_v35_eq m' c).trans (funext fun i => ?_)
  refine (Cert.ReferenceIdeal.Loss.result_apply _ _ i).trans ?_
  refine .trans ?_ (Cert.KernelIdeal.Loss.result_eq m c i).symm
  rw [(hagree c).1, (hagree c).2]
  exact (Cert.Rank.loss_eq (Cert.Pre_generic.Loss.generic_of _ _ (hpre c)) _).symm

end Cert.Proof.Algebraic

end
-- ==== Proof.NearFacts.lean ====
/- The side conditions the bound's and the difference's predicates state, each decided on its shapes. -/
module

public import proofs.«01_k».proof.Post_near
public import proofs.«01_k».proof.Post_differs
public import proofs.«01_k».proof.Pre_zero

@[expose] public section

set_option maxRecDepth 65536

noncomputable section

open Idealize.ShloMosaic

/-- The bound's side conditions hold. -/
instance Cert.Post_near.Gen.facts : Cert.Post_near.Facts where
  reducesTo_S4096x128_S4096_d1 := by decide
  h_S_ := by decide
  bcast_S4096_S4096x1_0 := by decide
  transposes_S4096x1_S1x4096_1_0 := by decide
  bcast_S4096x1_S4096x4096_0_1 := by decide
  bcast_S1x4096_S4096x4096_0_1 := by decide
  transposes_S4096x128_S128x4096_1_0 := by decide
  bcast_S_S4096x4096 := by decide
  slices_S4096x4096_S4096x1_0_2 := by decide
  bcast_S_S4096x128 := by decide
  bcast_S_S4096 := by decide
  reducesTo_S4096_S_d0 := by decide
  shapeCasts_S_S1x1 := by decide
  bcast_S_S1x1 := by decide
  dot_S4096x128_S128x4096_S4096x4096_1_0_0_1_n_n_wf := by decide
  gather_S4096x128_S4096x1_S4096x128_1_0_n_n_0_1_1128_wf := by decide

/-- The difference's side conditions are among them. -/
instance Cert.Post_differs.Gen.facts : Cert.Post_differs.Facts where
  reducesTo_S4096x128_S4096_d1 := Cert.Post_near.Gen.facts.reducesTo_S4096x128_S4096_d1
  h_S_ := Cert.Post_near.Gen.facts.h_S_
  bcast_S4096_S4096x1_0 := Cert.Post_near.Gen.facts.bcast_S4096_S4096x1_0
  transposes_S4096x1_S1x4096_1_0 := Cert.Post_near.Gen.facts.transposes_S4096x1_S1x4096_1_0
  bcast_S4096x1_S4096x4096_0_1 := Cert.Post_near.Gen.facts.bcast_S4096x1_S4096x4096_0_1
  bcast_S1x4096_S4096x4096_0_1 := Cert.Post_near.Gen.facts.bcast_S1x4096_S4096x4096_0_1
  transposes_S4096x128_S128x4096_1_0 := Cert.Post_near.Gen.facts.transposes_S4096x128_S128x4096_1_0
  bcast_S_S4096x4096 := Cert.Post_near.Gen.facts.bcast_S_S4096x4096
  slices_S4096x4096_S4096x1_0_2 := Cert.Post_near.Gen.facts.slices_S4096x4096_S4096x1_0_2
  bcast_S_S4096x128 := Cert.Post_near.Gen.facts.bcast_S_S4096x128
  bcast_S_S4096 := Cert.Post_near.Gen.facts.bcast_S_S4096
  reducesTo_S4096_S_d0 := Cert.Post_near.Gen.facts.reducesTo_S4096_S_d0
  shapeCasts_S_S1x1 := Cert.Post_near.Gen.facts.shapeCasts_S_S1x1
  dot_S4096x128_S128x4096_S4096x4096_1_0_0_1_n_n_wf := Cert.Post_near.Gen.facts.dot_S4096x128_S128x4096_S4096x4096_1_0_0_1_n_n_wf
  gather_S4096x128_S4096x1_S4096x128_1_0_n_n_0_1_1128_wf := Cert.Post_near.Gen.facts.gather_S4096x128_S4096x1_S4096x128_1_0_n_n_0_1_1128_wf

/-- As is that of the zero arrays' predicate. -/
instance Cert.Pre_zero.Gen.facts : Cert.Pre_zero.Facts where
  bcast_S_S4096x128 := Cert.Post_near.Gen.facts.bcast_S_S4096x128

end
-- ==== Proof.NearValue.lean ====
/- What the postcondition says of a result: it and the loss with the shift in both distances are within the tolerance of
   each other. -/
module

public import proofs.«01_k».proof.Proof.NearFacts
public import proofs.«01_k».proof.Proof.RefValue

@[expose] public section

set_option maxRecDepth 65536

noncomputable section

namespace Cert.Post_near.Loss

open Idealize.ShloMosaic Idealize.ShloMosaic.TcCoe Idealize.ShloMosaic.Tactic Idealize.SL.Sem
open Cert.Post_near Cert.Post_near.Facts
open Cert.ReferenceIdeal.Loss (Rows dist nearest canonical dist_apply shift margin count dPos gatherRow_apply toInt_row)
open Cert.ReferenceIdeal.Read (val_main_v13 val_main_call1_v0)

/-- The tolerance, 1.2e-5 to the nearest f32. -/
abbrev tolerance : EReal := Ideal.ofBits .f32 0x3749539C#32

/-- The distance of row `n` to its hard negative, each coordinate's difference shifted. -/
def dNeg (x : Rows) (n : Fin 4096) : EReal :=
  Ideal.sqrt (∑ k : Fin 128, (x (ix2 n k) - x (ix2 (nearest x n 2) k) + shift) * (x (ix2 n k) - x (ix2 (nearest x n 2) k) + shift))
/-- Row `n`'s share of the loss. -/
def hinge (x p : Rows) (n : Fin 4096) : EReal := max (dPos x p n - dNeg x n + margin) 0
/-- The loss with the shift in both distances. -/
def loss (x p : Rows) : EReal := Ideal.div (∑ n : Fin 4096, hinge x p n) count

/-- The postcondition's comparator asks whether the first key is the smaller. -/
theorem byKey : Order.ByKey (comparator_f32_i32_d1 (F := Ideal)) := fun l r => by
  have hz : Ideal.ofBits .f32 0x00000000#32 = 0 := by simp [Ideal.ofBits, Ideal.ieee]
  have e : comparator_f32_i32_d1 (F := Ideal) l r = Ideal.cmpTotal .lt
      (Scalar.select (Ideal.cmp .une l.1 l.1) (Ideal.ofBits .f32 0x7FC00000#32)
        (Scalar.select (Ideal.cmp .oeq l.1 (Ideal.ofBits .f32 0x00000000#32)) (Ideal.ofBits .f32 0x00000000#32) l.1))
      (Scalar.select (Ideal.cmp .une r.1 r.1) (Ideal.ofBits .f32 0x7FC00000#32)
        (Scalar.select (Ideal.cmp .oeq r.1 (Ideal.ofBits .f32 0x00000000#32)) (Ideal.ofBits .f32 0x00000000#32) r.1)) := rfl
  rw [e, hz, canonical, canonical]
  rfl

variable (x p : Rows) (out : S1x1.Idx → EReal)

/-- The column numbers sorted by each row's distances. -/
def cols : S4096x4096.Idx → BitVec 32 :=
  (Host.sort2 S4096x4096 1 (comparator_f32_i32_d1 (F := Ideal)) (val_main_v13 (F := Ideal) x) (val_main_call1_v0 (F := Ideal))).2
/-- Place `r` of row `n` holds the number of the `r`-th nearest row. -/
theorem cols_apply (n r : Fin 4096) : cols x (ix2 n r) = BitVec.ofNat 32 (nearest x n r).val := by
  refine ((Order.sort2_apply _ (val_main_v13 (F := Ideal) x) (val_main_call1_v0 (F := Ideal)) n r byKey).2).trans ?_
  simp only [dist_apply]
  rfl

/-- The rows the postcondition gathers. -/
def taken : S4096x128.Idx → EReal :=
  Host.gather gather_S4096x128_S4096x1_S4096x128_1_0_n_n_0_1_1128 x
    (extractStridedSlice S4096x1 ![0, 2] (cols x) slices_S4096x4096_S4096x1_0_2)
/-- They are the hard negatives. -/
theorem taken_apply (n : Fin 4096) (k : Fin 128) : taken x (ix2 n k) = x (ix2 (nearest x n 2) k) := by
  have e : extractStridedSlice S4096x1 ![0, 2] (cols x) slices_S4096x4096_S4096x1_0_2 (ix2 n 0)
      = BitVec.ofNat 32 (nearest x n 2).val := by
    rw [← cols_apply]
    pointwise []
  refine (gatherRow_apply x _ n k).trans (congrArg (fun j => x (ix2 j k)) (Fin.ext ?_))
  show min (extractStridedSlice S4096x1 ![0, 2] (cols x) slices_S4096x4096_S4096x1_0_2 (ix2 n 0)).toInt.toNat 4095 = _
  rw [e, toInt_row]
  omega

/-- The postcondition measures from the gathered rows. -/
theorem fn_eq : Cert.Post_near.fn (F := Ideal) x p out
    = fn_part1 (F := Ideal) x out (taken x) (subf (F := Ideal) (φ := .f32) x p) := rfl

/-- The postcondition at an index. -/
theorem fn_apply (i : S1x1.Idx) : Cert.Post_near.fn (F := Ideal) x p out i
    = IntOp.andi (BitVec.ofBool (decide (out i ≤ loss x p + tolerance)))
      (BitVec.ofBool (decide (loss x p ≤ out i + tolerance))) := by
  have hz : Ideal.ofBits .f32 0x00000000#32 = 0 := by simp [Ideal.ofBits, Ideal.ieee]
  rw [fn_eq]
  pointwise [fn_part1, fn_part2]
  simp only [taken_apply, hz, zero_add]
  rfl

/-- The postcondition is all ones once the result and the loss are within the tolerance of each other. -/
theorem fn_of (h : ∀ i, out i ≤ loss x p + tolerance ∧ loss x p ≤ out i + tolerance) :
    Cert.Post_near.fn (F := Ideal) x p out = fun _ => 1#1 := funext fun i => by
  rw [fn_apply, decide_eq_true (h i).1, decide_eq_true (h i).2]
  rfl

end Cert.Post_near.Loss

end
-- ==== Proof.Shift.lean ====
/- Adding a constant to every coordinate of a difference moves its length little, and so the mean of the hinges little. -/
module

public import proofs.«01_k».proof.Proof.Literals
public import Mathlib.Analysis.InnerProductSpace.PiL2

@[expose] public section

noncomputable section

namespace Cert.Shift

open Idealize.ShloMosaic
open Cert.Literals

/-- The length of a row. -/
def len (v : Fin 128 → ℝ) : ℝ := Real.sqrt (∑ k, v k * v k)

/-- It is the Euclidean norm. -/
theorem len_eq (v : Fin 128 → ℝ) : len v = ‖WithLp.toLp 2 v‖ := by
  rw [EuclideanSpace.norm_eq, len]
  exact congrArg Real.sqrt (Finset.sum_congr rfl fun k _ => by
    rw [Real.norm_eq_abs, sq_abs]; exact (sq (v k)).symm)

/-- Adding `s` to each of the 128 coordinates moves the length by at most 12 `s`. -/
theorem len_shift (v : Fin 128 → ℝ) {s : ℝ} (hs : 0 ≤ s) :
    len v ≤ len (fun k => v k + s) + 12 * s ∧ len (fun k => v k + s) ≤ len v + 12 * s := by
  have hc : ‖WithLp.toLp 2 (fun _ : Fin 128 => s)‖ ≤ 12 * s := by
    rw [← len_eq, len]
    refine Real.sqrt_le_iff.mpr ⟨by linarith, ?_⟩
    rw [Finset.sum_const, Finset.card_univ, Fintype.card_fin, nsmul_eq_mul]
    push_cast
    nlinarith [mul_self_nonneg s]
  have e : WithLp.toLp 2 (fun k => v k + s) = WithLp.toLp 2 v + WithLp.toLp 2 (fun _ : Fin 128 => s) := rfl
  rw [len_eq, len_eq, e]
  constructor
  · have := norm_sub_le (WithLp.toLp 2 v + WithLp.toLp 2 (fun _ : Fin 128 => s)) (WithLp.toLp 2 (fun _ : Fin 128 => s))
    rw [add_sub_cancel_right] at this
    linarith
  · exact (norm_add_le _ _).trans (by linarith)

/-- The mean of the hinges, of given distances to the positives and to the negatives. -/
def mean (p : Fin 4096 → EReal) (m : EReal) (d : Fin 4096 → ℝ) : EReal :=
  (∑ n, max (p n - (d n : EReal) + m) 0) * ((1 / 4096 : ℝ) : EReal)

/-- A hinge moves by no more than its distance to the negative does. -/
theorem hinge_le (a m : EReal) {d e t : ℝ} (ht : 0 ≤ t) (h : e ≤ d + t) :
    max (a - (d : EReal) + m) 0 ≤ max (a - (e : EReal) + m) 0 + (t : EReal) := by
  have hneg : -(d : EReal) ≤ -(e : EReal) + (t : EReal) := by
    rw [← EReal.coe_neg, ← EReal.coe_neg, ← EReal.coe_add, EReal.coe_le_coe_iff]
    linarith
  have ht' : (0 : EReal) ≤ (t : EReal) := EReal.coe_nonneg.mpr ht
  refine max_le ?_ (add_nonneg (le_max_right _ _) ht')
  rw [sub_eq_add_neg, sub_eq_add_neg]
  calc a + -(d : EReal) + m ≤ a + (-(e : EReal) + (t : EReal)) + m := by gcongr
    _ = a + -(e : EReal) + m + (t : EReal) := by rw [← add_assoc, add_right_comm]
    _ ≤ max (a + -(e : EReal) + m) 0 + (t : EReal) := by gcongr; exact le_max_left _ _

/-- The mean moves by no more than the distances to the negatives do. -/
theorem mean_le (p : Fin 4096 → EReal) (m : EReal) {d e : Fin 4096 → ℝ} {t : ℝ} (ht : 0 ≤ t)
    (h : ∀ n, e n ≤ d n + t) : mean p m d ≤ mean p m e + (t : EReal) := by
  have hshare : (0 : EReal) ≤ ((1 / 4096 : ℝ) : EReal) := EReal.coe_nonneg.mpr (by norm_num)
  have hs : ∑ n, max (p n - (d n : EReal) + m) 0 ≤ (∑ n, max (p n - (e n : EReal) + m) 0) + ((4096 * t : ℝ) : EReal) := by
    refine (Finset.sum_le_sum fun n _ => hinge_le (p n) m ht (h n)).trans (le_of_eq ?_)
    rw [Finset.sum_add_distrib, ← coe_sum]
    simp
  have h0 : (0 : EReal) ≤ ∑ n, max (p n - (e n : EReal) + m) 0 := Finset.sum_nonneg fun n _ => le_max_right _ _
  unfold mean
  refine (mul_le_mul_of_nonneg_right hs hshare).trans (le_of_eq ?_)
  rw [EReal.right_distrib_of_nonneg h0 (EReal.coe_nonneg.mpr (by linarith)), ← EReal.coe_mul]
  congr 2
  ring

end Cert.Shift

end
-- ==== Proof.NearLoss.lean ====
/- Where the precondition holds the kernel's loss and the loss with the shift in both distances are within the tolerance of
   each other. -/
module

public import proofs.«01_k».proof.Proof.NearValue
public import proofs.«01_k».proof.Proof.Shift
public import proofs.«01_k».proof.Proof.LossEq

@[expose] public section

set_option maxRecDepth 65536

noncomputable section

namespace Cert.Rank

open Idealize.ShloMosaic
open Cert.Literals Cert.RowReal
open Cert.ReferenceIdeal.Loss (nearest dPos margin)
open Cert.Pre_generic.Loss (Generic)

/-- The f32 nearest 1e-6, the shift. -/
def step : ℝ := 8796093 / 2 ^ 43

theorem step_pos : 0 < step := by unfold step; positivity

theorem shift_eq : Ideal.ofBits .f32 0x358637BD#32 = (step : EReal) := by
  simp [Ideal.ofBits, Ideal.ieee, step]
  rw [← EReal.coe_mul]
  norm_num

/-- Twelve shifts are within the tolerance. -/
theorem tolerance_ge : ((12 * step : ℝ) : EReal) ≤ Ideal.ofBits .f32 0x3749539C#32 := by
  have e : Ideal.ofBits .f32 0x3749539C#32 = ((13194140 / 2 ^ 40 : ℝ) : EReal) := by
    simp [Ideal.ofBits, Ideal.ieee]
    rw [← EReal.coe_mul]
    norm_num
  rw [e, EReal.coe_le_coe_iff]
  unfold step
  norm_num

/-- The difference of row `n` and its hard negative. -/
def diff (x : Rows) (n : Fin 4096) (k : Fin 128) : ℝ := entry x n k - entry x (nearest x n 2) k

variable {x : Rows} (h : Generic x) (p : Rows) (n : Fin 4096)

include h

/-- The reference's distance to the hard negative is the difference's length. -/
theorem dNeg_len : Cert.ReferenceIdeal.Loss.dNeg x n = (Shift.len (diff x n) : EReal) := by
  unfold Cert.ReferenceIdeal.Loss.dNeg
  rw [sq_coe h.finite, sqrt_coe (sq_nonneg x n _)]
  rfl

/-- The distance with the shift is the shifted difference's length. -/
theorem dNeg_shift : Cert.Post_near.Loss.dNeg x n = (Shift.len (fun k => diff x n k + step) : EReal) := by
  have e : ∑ k : Fin 128, (x (ix2 n k) - x (ix2 (nearest x n 2) k) + Cert.ReferenceIdeal.Loss.shift)
        * (x (ix2 n k) - x (ix2 (nearest x n 2) k) + Cert.ReferenceIdeal.Loss.shift)
      = ((∑ k, (diff x n k + step) * (diff x n k + step) : ℝ) : EReal) := by
    rw [coe_sum]
    exact Finset.sum_congr rfl fun k _ => by
      rw [entry_coe h.finite, entry_coe h.finite, show Cert.ReferenceIdeal.Loss.shift = _ from shift_eq, ← EReal.coe_sub,
        ← EReal.coe_add, ← EReal.coe_mul]
      rfl
  unfold Cert.Post_near.Loss.dNeg
  rw [e, sqrt_coe (Finset.sum_nonneg fun k _ => mul_self_nonneg _)]
  rfl

/-- The kernel's loss as a mean of hinges. -/
theorem loss_mean : Cert.KernelIdeal.Loss.loss x p
    = Shift.mean (dPos x p) margin fun n => Shift.len (diff x n) := by
  rw [loss_eq h]
  unfold Cert.ReferenceIdeal.Loss.loss Cert.ReferenceIdeal.Loss.hinge Shift.mean
  rw [div_count, show Cert.KernelIdeal.Loss.share = _ from share_eq]
  simp only [dNeg_len h]

/-- The loss with the shift in both distances as a mean of hinges. -/
theorem shifted_mean : Cert.Post_near.Loss.loss x p
    = Shift.mean (dPos x p) margin fun n => Shift.len (fun k => diff x n k + step) := by
  unfold Cert.Post_near.Loss.loss Cert.Post_near.Loss.hinge Shift.mean
  rw [div_count, show Cert.KernelIdeal.Loss.share = _ from share_eq]
  simp only [dNeg_shift h]

/-- The two losses are within the tolerance of each other. -/
theorem loss_near : Cert.KernelIdeal.Loss.loss x p ≤ Cert.Post_near.Loss.loss x p + Cert.Post_near.Loss.tolerance
    ∧ Cert.Post_near.Loss.loss x p ≤ Cert.KernelIdeal.Loss.loss x p + Cert.Post_near.Loss.tolerance := by
  have ht : 0 ≤ 12 * step := by have := step_pos; linarith
  rw [loss_mean h, shifted_mean h]
  exact ⟨(Shift.mean_le _ _ ht fun n => (Shift.len_shift (diff x n) step_pos.le).2).trans (add_le_add_right tolerance_ge _),
    (Shift.mean_le _ _ ht fun n => (Shift.len_shift (diff x n) step_pos.le).1).trans (add_le_add_right tolerance_ge _)⟩

end Cert.Rank

end
-- ==== Proof.Zero.lean ====
/- On zero arrays the kernel's loss is zero and reference.py's is the margin: every other row is at the same distance, so the
   kernel strikes out all of them. -/
module

public import proofs.«01_k».proof.Proof.NearLoss

@[expose] public section

set_option maxRecDepth 65536

noncomputable section

namespace Cert.Zero

open Idealize.ShloMosaic Idealize.ShloMosaic.TcCoe Idealize.ShloMosaic.Tactic Idealize.SL.Sem
open Cert.Literals Cert.RowReal
open Cert.ReferenceIdeal.Loss (nearest dPos shift margin)

/-- Every entry of the array is zero. -/
def IsZero (x : Rows) : Prop := ∀ n k, x (ix2 n k) = 0

/-- Where all 4096 values are zero each candidate is zero or struck out. -/
theorem cand_zero {w : ℕ → EReal} (hw : ∀ j < 4096, w j = 0) (l0 : ℕ) (q : Fin 256) :
    Select.cand w l0 q = ⊤ ∨ Select.cand w l0 q = 0 := by
  unfold Select.cand Select.first Select.other
  split
  · split
    · exact .inl rfl
    · obtain ⟨k, hk, e⟩ := Select.lo_mem (Select.lane w q.val) 32 (by omega)
      exact .inr (e.trans (hw _ (by omega)))
  · rcases Select.hi_mem (Select.lane w (q.val - 128)) 32 with e | ⟨a, b, hab, hb, e⟩
    · exact .inl e
    · refine .inr (e.trans ?_)
      show max (w (128 * a + (q.val - 128))) (w (128 * b + (q.val - 128))) = 0
      rw [hw _ (by omega), hw _ (by omega), max_self]

/-- Some candidate is zero: lane 0's second least. -/
theorem cand_le {w : ℕ → EReal} (hw : ∀ j < 4096, w j = 0) (l0 : ℕ) : Select.cand w l0 128 ≤ 0 := by
  have h := Select.hi_le (Select.lane w 0) 32 0 1 (by omega) (by omega)
  rw [show Select.lane w 0 0 = 0 from hw _ (by omega), show Select.lane w 0 1 = 0 from hw _ (by omega), max_self] at h
  exact h

/-- So the least candidate is zero and nothing is left beside it. -/
theorem next_zero {w : ℕ → EReal} (hw : ∀ j < 4096, w j = 0) (l0 : ℕ) : Select.next (Select.cand w l0) = ⊤ := by
  have hl : Select.least (Select.cand w l0) = 0 := by
    refine le_antisymm ((Finset.inf_le (Finset.mem_univ (128 : Fin 256))).trans (cand_le hw l0)) (Finset.le_inf fun q _ => ?_)
    rcases cand_zero hw l0 q with e | e <;> rw [e]
    exact le_top
  refine top_le_iff.mp (Finset.le_inf fun q _ => ?_)
  rcases cand_zero hw l0 q with e | e
  · split
    · exact le_rfl
    · exact e.ge
  · rw [if_pos (e.trans hl.symm)]

variable {x p : Rows} (hx : IsZero x) (hp : IsZero p) (n : Fin 4096)

include hx

/-- The kernel finds no negative. -/
theorem dNeg_top : Cert.KernelIdeal.Loss.dNeg x n = ⊤ := by
  have hn : ∀ j, Cert.KernelIdeal.Loss.norm2 x j = 0 := fun j =>
    Finset.sum_eq_zero fun k _ => by rw [hx, mul_zero]
  have hw : ∀ j < 4096, Cert.KernelIdeal.Loss.rdist x n j = 0 := fun j hj => by
    unfold Cert.KernelIdeal.Loss.rdist
    rw [dif_pos hj, hn, zero_add]
    exact Finset.sum_eq_zero fun k _ => by rw [hx, hx, mul_zero]
  unfold Cert.KernelIdeal.Loss.dNeg
  rw [next_zero hw, hn, add_zero, max_eq_right le_top]
  rfl

/-- The kernel's loss is zero. -/
theorem kernel_loss : Cert.KernelIdeal.Loss.loss x p = 0 := by
  have hh : ∀ n, Cert.KernelIdeal.Loss.hinge x p n = 0 := fun n => by
    unfold Cert.KernelIdeal.Loss.hinge
    rw [dNeg_top hx, sub_eq_add_neg, EReal.neg_top, EReal.add_bot, EReal.bot_add]
    exact max_eq_right bot_le
  have hb : ∀ t, Cert.KernelIdeal.Loss.blockSum x p t = 0 := fun t => Finset.sum_eq_zero fun r _ => hh _
  unfold Cert.KernelIdeal.Loss.loss
  rw [hb, hb, hb, hb]
  simp

include hp

/-- reference.py's loss is not. -/
theorem exact_loss : Cert.Post_near.Loss.loss x p ≠ 0 := by
  have hm : margin = ((10066330 / 2 ^ 25 : ℝ) : EReal) := by
    simp [Ideal.ofBits, Ideal.ieee]
    rw [← EReal.coe_mul]
    norm_num
  have hd : ∀ a b : EReal, a = 0 → b = 0 → a - b + shift = (Rank.step : EReal) := fun a b ha hb => by
    rw [ha, hb, show shift = _ from Rank.shift_eq, sub_zero, zero_add]
  have hs : Ideal.sqrt (∑ _k : Fin 128, (Rank.step : EReal) * (Rank.step : EReal))
      = ((Real.sqrt (∑ _k : Fin 128, Rank.step * Rank.step) : ℝ) : EReal) := by
    rw [← sqrt_coe (Finset.sum_nonneg fun k _ => mul_self_nonneg _), coe_sum]
    simp only [EReal.coe_mul]
  have hh : ∀ n, Cert.Post_near.Loss.hinge x p n = ((10066330 / 2 ^ 25 : ℝ) : EReal) := fun n => by
    have e1 : dPos x p n = Cert.Post_near.Loss.dNeg x n := by
      unfold dPos Cert.Post_near.Loss.dNeg
      simp only [hx _ _, hp _ _]
    have e2 : Cert.Post_near.Loss.dNeg x n = ((Real.sqrt (∑ _k : Fin 128, Rank.step * Rank.step) : ℝ) : EReal) := by
      rw [← hs]
      unfold Cert.Post_near.Loss.dNeg
      simp only [hd _ _ (hx _ _) (hx _ _)]
    unfold Cert.Post_near.Loss.hinge
    rw [e1, e2, hm, ← EReal.coe_sub, sub_self, EReal.coe_zero, zero_add]
    exact max_eq_left (EReal.coe_nonneg.mpr (by norm_num))
  unfold Cert.Post_near.Loss.loss
  rw [Rank.div_count, show Cert.KernelIdeal.Loss.share = _ from share_eq]
  simp only [hh]
  rw [← coe_sum, ← EReal.coe_mul, Finset.sum_const, Finset.card_univ, Fintype.card_fin, nsmul_eq_mul]
  norm_num

omit hx hp

/-- The predicate of zero arrays, read back. -/
theorem zero_of (h : Cert.Pre_zero.fn (F := Ideal) x p = fun _ => 1#1) : IsZero x ∧ IsZero p := by
  have hz : Ideal.ofBits .f32 0x00000000#32 = 0 := by simp [Ideal.ofBits, Ideal.ieee]
  have key : ∀ n k, x (ix2 n k) = 0 ∧ p (ix2 n k) = 0 := fun n k => by
    have e : Cert.Pre_zero.fn (F := Ideal) x p (ix2 n k)
        = IntOp.andi (BitVec.ofBool (decide (x (ix2 n k) = Ideal.ofBits .f32 0x00000000#32)))
          (BitVec.ofBool (decide (p (ix2 n k) = Ideal.ofBits .f32 0x00000000#32))) := by
      pointwise [Cert.Pre_zero.fn]
    have e' := e.symm.trans (congrFun h (ix2 n k))
    rw [Cert.Pre_generic.Loss.andi_one, Cert.Pre_generic.Loss.ofBool_one, Cert.Pre_generic.Loss.ofBool_one,
      decide_eq_true_iff, decide_eq_true_iff, hz] at e'
    exact e'
  exact ⟨fun n k => (key n k).1, fun n k => (key n k).2⟩

variable (x p) (out : Cert.Post_differs.S1x1.Idx → EReal)

/-- The difference's predicate measures from the same gathered rows as the bound's. -/
theorem differs_eq : Cert.Post_differs.fn (F := Ideal) x p out
    = Cert.Post_differs.fn_part1 (F := Ideal) x out (Cert.Post_near.Loss.taken x) (subf (F := Ideal) (φ := .f32) x p) := rfl

/-- The predicate at an index. -/
theorem differs_apply (i : Cert.Post_differs.S1x1.Idx) : Cert.Post_differs.fn (F := Ideal) x p out i
    = BitVec.ofBool (decide (out i ≠ Cert.Post_near.Loss.loss x p)) := by
  have hz : Ideal.ofBits .f32 0x00000000#32 = 0 := by simp [Ideal.ofBits, Ideal.ieee]
  rw [differs_eq]
  pointwise [Cert.Post_differs.fn_part1, Cert.Post_differs.fn_part2]
  simp only [Cert.Post_near.Loss.taken_apply, hz, zero_add]
  rfl

end Cert.Zero

end
-- ==== Proof.Near.lean ====
/- The two statements about reference.py's own loss: where `generic` holds the kernel's result and it are within the
   tolerance of each other, and on zero arrays they differ. -/
module

public import proofs.«01_k».proof.Defs
public import proofs.«01_k».proof.Proof.Zero

@[expose] public section

noncomputable section

namespace Cert.Proof.Near

open Idealize.ShloMosaic Idealize.ShloMosaic.TcCoe Idealize.SL.Sem

/-- On arguments of which `generic` holds, the kernel ends with a result of which `near` holds. -/
theorem near : Cert.holds_KernelIdeal_near_pre_generic := by
  intro m ρ hpre
  refine (θ_run Cert.KernelIdeal.defs _ _).mono (fun r h c => ⟨(h c).2.1, (h c).2.2, ?_⟩)
    (Cert.KernelIdeal.Value.run (F := Ideal) m ρ)
  rw [(h c).1]
  refine Cert.Post_near.Loss.fn_of _ _ _ fun i => ?_
  rw [Cert.KernelIdeal.Loss.result_eq m c i]
  exact Cert.Rank.loss_near (Cert.Pre_generic.Loss.generic_of _ _ (hpre c)) _

/-- On zero arrays the kernel ends with a result of which `differs` holds. -/
theorem differs : Cert.holds_KernelIdeal_differs_pre_zero := by
  intro m ρ hpre
  refine (θ_run Cert.KernelIdeal.defs _ _).mono (fun r h c => ⟨(h c).2.1, (h c).2.2, ?_⟩)
    (Cert.KernelIdeal.Value.run (F := Ideal) m ρ)
  rw [(h c).1]
  obtain ⟨hx, hp⟩ := Cert.Zero.zero_of (hpre c)
  refine funext fun i => (Cert.Zero.differs_apply _ _ _ i).trans ?_
  rw [Cert.KernelIdeal.Loss.result_eq m c i, Cert.Zero.kernel_loss hx,
    decide_eq_true (Cert.Zero.exact_loss hx hp).symm]
  rfl

end Cert.Proof.Near

end
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.KernelIdeal.Value
public import proofs.«01_k».proof.Proof.Gen.ReferenceIdeal.Run
public import proofs.«01_k».proof.Proof.Gen.ReferenceIdeal.Read
public import proofs.«01_k».proof.Proof.GenericFacts
public import proofs.«01_k».proof.Proof.Algebraic
public import proofs.«01_k».proof.Proof.Near
public import Idealize.ShloMosaic.Adequacy
public import Idealize.ShloMosaic.Init

@[expose] public section

noncomputable section

namespace Cert.Proof

open Idealize.ShloMosaic Idealize.SL.Sem Cert.Kernel

/-- The kernel runs, ends its semaphores at zero and keeps its arguments. -/
theorem frame_kernel : Cert.quiescent_Kernel := fun m ρ _ => Cert.Kernel.Gen.frame m ρ

/-- The idealised kernel runs, ends its semaphores at zero and keeps its arguments. -/
theorem frame_ideal : Cert.quiescent_KernelIdeal := fun m ρ _ => Cert.KernelIdeal.Gen.frame m ρ

/-- The reference runs, has no semaphore and keeps its arguments. -/
theorem frame_reference : Cert.quiescent_ReferenceIdeal := fun m ρ _ =>
  (θ_run Cert.ReferenceIdeal.defs _ _).mono
    (fun r h => ⟨fun c => (h c).2, Idealize.ShloMosaic.sem_eq_zero_of_no_sems (by decide) r.2⟩)
    (Cert.ReferenceIdeal.Value.run (F := Ideal) m ρ)

theorem claim : Cert.Claim :=
  ⟨Cert.Kernel.Gen.facts, Cert.KernelIdeal.Gen.facts, Cert.ReferenceIdeal.Gen.facts, Cert.Pre_generic.Gen.facts,
    Cert.Pre_zero.Gen.facts, Cert.Post_near.Gen.facts, Cert.Post_differs.Gen.facts,
    frame_kernel, frame_ideal, fun m g _ => frame_ideal m g trivial, fun m g _ => frame_ideal m g trivial, frame_reference,
    fun m g _ => frame_reference m g trivial, trivial, Algebraic.algebraic, Near.near, Near.differs⟩

end Cert.Proof

end
